-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_xs [hPre_finite_xs : Cert.Pre_finite_xs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_xs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_xs [hPre_finite_xs : Cert.Pre_finite_xs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_xs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_finite_xs [hKernelIdeal : Cert.KernelIdeal.Facts] [hPre_finite_xs : Cert.Pre_finite_xs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_xs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_finite_xs [hReferenceIdeal : Cert.ReferenceIdeal.Facts] [hPre_finite_xs : Cert.Pre_finite_xs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_xs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  True

def algebraic_KernelIdeal_ReferenceIdeal_pre_finite_xs [hKernelIdeal : Cert.KernelIdeal.Facts] [hReferenceIdeal : Cert.ReferenceIdeal.Facts] [hPre_finite_xs : Cert.Pre_finite_xs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_xs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_xs : Cert.Pre_finite_xs.Facts),
    quiescent_Kernel (hKernel := hKernel)
    ∧ quiescent_KernelIdeal (hKernelIdeal := hKernelIdeal)
    ∧ quiescent_KernelIdeal_pre_finite_xs (hKernelIdeal := hKernelIdeal) (hPre_finite_xs := hPre_finite_xs)
    ∧ quiescent_ReferenceIdeal (hReferenceIdeal := hReferenceIdeal)
    ∧ quiescent_ReferenceIdeal_pre_finite_xs (hReferenceIdeal := hReferenceIdeal) (hPre_finite_xs := hPre_finite_xs)
    ∧ preserves_Kernel_KernelIdeal
    ∧ algebraic_KernelIdeal_ReferenceIdeal_pre_finite_xs (hKernelIdeal := hKernelIdeal) (hReferenceIdeal := hReferenceIdeal) (hPre_finite_xs := hPre_finite_xs)
-- ==== Pre_finite_xs.lean ====
abbrev S5x128 : Shape := ⟨2, ![5, 128]⟩
abbrev S256x128 : Shape := ⟨2, ![256, 128]⟩
abbrev S128 : Shape := ⟨1, ![128]⟩
abbrev S5x5 : Shape := ⟨2, ![5, 5]⟩
abbrev S5 : Shape := ⟨1, ![5]⟩
abbrev S15x5 : Shape := ⟨2, ![15, 5]⟩
abbrev S15 : Shape := ⟨1, ![15]⟩
abbrev S128x16 : Shape := ⟨2, ![128, 16]⟩
abbrev S128x128 : Shape := ⟨2, ![128, 128]⟩
abbrev S5x16 : Shape := ⟨2, ![5, 16]⟩
abbrev S18537x640 : Shape := ⟨2, ![18537, 640]⟩
abbrev S640 : Shape := ⟨1, ![640]⟩
abbrev S_ : Shape := ⟨0, ![]⟩

class Facts : Prop where
  bcast_S_S5x128 : S_.BroadcastsInDim S5x128 (![] : Fin 0 → Fin S5x128.rank)
  reducesTo_S5x128_S_d0_1 : S5x128.ReducesTo [0, 1] S_
  h_S_ : 0 < S_.numel
  bcast_S_S5x16 : S_.BroadcastsInDim S5x16 (![] : Fin 0 → Fin S5x16.rank)
  reducesTo_S5x16_S_d0_1 : S5x16.ReducesTo [0, 1] S_

variable [Facts]

def fn {F : FTy → Type} [FloatOps F] (main_arg0 : FVec F S5x128 .f32) (main_arg1 : FVec F S5x128 .f32) (main_arg2 : FVec F S256x128 .f32) (main_arg3 : FVec F S128 .f32) (main_arg4 : FVec F S5x5 .f32) (main_arg5 : FVec F S5 .f32) (main_arg6 : FVec F S15x5 .f32) (main_arg7 : FVec F S15x5 .f32) (main_arg8 : FVec F S15 .f32) (main_arg9 : FVec F S15 .f32) (main_arg10 : FVec F S5x5 .f32) (main_arg11 : FVec F S128x16 .f32) (main_arg12 : FVec F S128x128 .f32) (main_arg13 : FVec F S5x16 .f32) (main_arg14 : FVec F S18537x640 .f32) (main_arg15 : FVec F S640 .f32) : IVec S_ 1 :=
  let main_v0 : FVec F S5x128 .f32 := Host.absf main_arg0
  let main_cst : FVec F S_ .f32 := constant S_ .f32 0x7F800000#32
  let main_v1 : FVec F S5x128 .f32 := broadcastInDim S5x128 ![] bcast_S_S5x128 main_cst
  let main_v2 : IVec S5x128 1 := cmpf .olt main_v0 main_v1
  let main_c : IVec S_ 1 := constantI S_ 1 1#1
  let main_v3 : IVec S_ 1 := (fun x v => Host.reduce IntOp.andi x v reducesTo_S5x128_S_d0_1 h_S_) main_v2 main_c
  let main_v4 : FVec F S5x16 .f32 := Host.absf main_arg13
  let main_cst_0 : FVec F S_ .f32 := constant S_ .f32 0x7F800000#32
  let main_v5 : FVec F S5x16 .f32 := broadcastInDim S5x16 ![] bcast_S_S5x16 main_cst_0
  let main_v6 : IVec S5x16 1 := cmpf .olt main_v4 main_v5
  let main_c_1 : IVec S_ 1 := constantI S_ 1 1#1
  let main_v7 : IVec S_ 1 := (fun x v => Host.reduce IntOp.andi x v reducesTo_S5x16_S_d0_1 h_S_) main_v6 main_c_1
  let main_v8 : IVec S_ 1 := andi main_v3 main_v7
  main_v8
-- ==== Kernel.lean ====
abbrev S5x128 : Shape := ⟨2, ![5, 128]⟩
abbrev S256x128 : Shape := ⟨2, ![256, 128]⟩
abbrev S128 : Shape := ⟨1, ![128]⟩
abbrev S5x5 : Shape := ⟨2, ![5, 5]⟩
abbrev S5 : Shape := ⟨1, ![5]⟩
abbrev S15x5 : Shape := ⟨2, ![15, 5]⟩
abbrev S15 : Shape := ⟨1, ![15]⟩
abbrev S128x16 : Shape := ⟨2, ![128, 16]⟩
abbrev S128x128 : Shape := ⟨2, ![128, 128]⟩
abbrev S5x16 : Shape := ⟨2, ![5, 16]⟩
abbrev S18537x640 : Shape := ⟨2, ![18537, 640]⟩
abbrev S640 : Shape := ⟨1, ![640]⟩
abbrev S128x5 : Shape := ⟨2, ![128, 5]⟩
abbrev S25 : Shape := ⟨1, ![25]⟩
abbrev S3x5x5 : Shape := ⟨3, ![3, 5, 5]⟩
abbrev S75 : Shape := ⟨1, ![75]⟩
abbrev S_ : Shape := ⟨0, ![]⟩
abbrev S6 : Shape := ⟨1, ![6]⟩
abbrev S856 : Shape := ⟨1, ![856]⟩
abbrev S856x1 : Shape := ⟨2, ![856, 1]⟩
abbrev S1024x640 : Shape := ⟨2, ![1024, 640]⟩
abbrev S1x20480 : Shape := ⟨2, ![1, 20480]⟩
abbrev S1x640 : Shape := ⟨2, ![1, 640]⟩
abbrev S128x1 : Shape := ⟨2, ![128, 1]⟩
abbrev S5x1 : Shape := ⟨2, ![5, 1]⟩
abbrev S1x5 : Shape := ⟨2, ![1, 5]⟩
abbrev S1x128 : Shape := ⟨2, ![1, 128]⟩
abbrev S1x1943 : Shape := ⟨2, ![1, 1943]⟩
abbrev S1x1 : Shape := ⟨2, ![1, 1]⟩
abbrev S1x16 : Shape := ⟨2, ![1, 16]⟩
abbrev S1x1024 : Shape := ⟨2, ![1, 1024]⟩
abbrev S1024x1 : Shape := ⟨2, ![1024, 1]⟩

abbrev nBuf : Space → Nat
  | .hbm => 30
  | .vmem => 24
  | .smem => 0
  | _ => 0

abbrev bufTy : (tb : Table) → Fin (tcTables nBuf tb) → BufTy
  | .hbm, ⟨0, _⟩ => ⟨S5x128, .f32⟩
  | .hbm, ⟨1, _⟩ => ⟨S5x128, .f32⟩
  | .hbm, ⟨2, _⟩ => ⟨S256x128, .f32⟩
  | .hbm, ⟨3, _⟩ => ⟨S128, .f32⟩
  | .hbm, ⟨4, _⟩ => ⟨S5x5, .f32⟩
  | .hbm, ⟨5, _⟩ => ⟨S5, .f32⟩
  | .hbm, ⟨6, _⟩ => ⟨S15x5, .f32⟩
  | .hbm, ⟨7, _⟩ => ⟨S15x5, .f32⟩
  | .hbm, ⟨8, _⟩ => ⟨S15, .f32⟩
  | .hbm, ⟨9, _⟩ => ⟨S15, .f32⟩
  | .hbm, ⟨10, _⟩ => ⟨S5x5, .f32⟩
  | .hbm, ⟨11, _⟩ => ⟨S128x16, .f32⟩
  | .hbm, ⟨12, _⟩ => ⟨S128x128, .f32⟩
  | .hbm, ⟨13, _⟩ => ⟨S5x16, .f32⟩
  | .hbm, ⟨14, _⟩ => ⟨S18537x640, .f32⟩
  | .hbm, ⟨15, _⟩ => ⟨S640, .f32⟩
  | .hbm, ⟨16, _⟩ => ⟨S128x5, .f32⟩
  | .hbm, ⟨17, _⟩ => ⟨S640, .f32⟩
  | .hbm, ⟨18, _⟩ => ⟨S25, .f32⟩
  | .hbm, ⟨19, _⟩ => ⟨S3x5x5, .f32⟩
  | .hbm, ⟨20, _⟩ => ⟨S3x5x5, .f32⟩
  | .hbm, ⟨21, _⟩ => ⟨S75, .f32⟩
  | .hbm, ⟨22, _⟩ => ⟨S3x5x5, .f32⟩
  | .hbm, ⟨23, _⟩ => ⟨S3x5x5, .f32⟩
  | .hbm, ⟨24, _⟩ => ⟨S75, .f32⟩
  | .hbm, ⟨25, _⟩ => ⟨S_, .f32⟩
  | .hbm, ⟨26, _⟩ => ⟨S6, .f32⟩
  | .hbm, ⟨27, _⟩ => ⟨S856, .f32⟩
  | .hbm, ⟨28, _⟩ => ⟨S856x1, .f32⟩
  | .hbm, ⟨29, _⟩ => ⟨S5x128, .f32⟩
  | .local _ .vmem, ⟨0, _⟩ => ⟨S5x128, .f32⟩
  | .local _ .vmem, ⟨1, _⟩ => ⟨S856x1, .f32⟩
  | .local _ .vmem, ⟨2, _⟩ => ⟨S5x128, .f32⟩
  | .local _ .vmem, ⟨3, _⟩ => ⟨S256x128, .f32⟩
  | .local _ .vmem, ⟨4, _⟩ => ⟨S128, .f32⟩
  | .local _ .vmem, ⟨5, _⟩ => ⟨S5x5, .f32⟩
  | .local _ .vmem, ⟨6, _⟩ => ⟨S128x16, .f32⟩
  | .local _ .vmem, ⟨7, _⟩ => ⟨S128x128, .f32⟩
  | .local _ .vmem, ⟨8, _⟩ => ⟨S5x16, .f32⟩
  | .local _ .vmem, ⟨9, _⟩ => ⟨S1024x640, .f32⟩
  | .local _ .vmem, ⟨10, _⟩ => ⟨S1024x640, .f32⟩
  | .local _ .vmem, ⟨11, _⟩ => ⟨S1024x640, .f32⟩
  | .local _ .vmem, ⟨12, _⟩ => ⟨S1024x640, .f32⟩
  | .local _ .vmem, ⟨13, _⟩ => ⟨S1024x640, .f32⟩
  | .local _ .vmem, ⟨14, _⟩ => ⟨S1024x640, .f32⟩
  | .local _ .vmem, ⟨15, _⟩ => ⟨S1024x640, .f32⟩
  | .local _ .vmem, ⟨16, _⟩ => ⟨S1024x640, .f32⟩
  | .local _ .vmem, ⟨17, _⟩ => ⟨S640, .f32⟩
  | .local _ .vmem, ⟨18, _⟩ => ⟨S5x128, .f32⟩
  | .local _ .vmem, ⟨19, _⟩ => ⟨S1x20480, .f32⟩
  | .local _ .vmem, ⟨20, _⟩ => ⟨S1x640, .f32⟩
  | .local _ .vmem, ⟨21, _⟩ => ⟨S128x1, .f32⟩
  | .local _ .vmem, ⟨22, _⟩ => ⟨S5x1, .f32⟩
  | .local _ .vmem, ⟨23, _⟩ => ⟨S5x1, .f32⟩
  | _, _ => ⟨S5x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_cst : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_v0 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg9_1 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg14_0 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem9_1 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem14_0 : DmaSem sig := 18

abbrev nD : Nat := 1
abbrev τ : Topo := Topo.v7x

variable {F : FTy → Type} [FloatOps F]

abbrev grid0 : Pipeline.Grid := ⟨1, ![5], ![false]⟩

def k0_cond2 (i : grid0.Coords) : BitVec 1 :=
  let arg0 : BitVec 32 := BitVec.ofNat 32 (i 0).val
  let c4_i32 : BitVec 32 := 4#32
  let v3 : BitVec 1 := Scalar.cmpi .slt arg0 c4_i32
  let v4 : BitVec 32 := Scalar.extui v3
  let c0_i32_1 : BitVec 32 := 0#32
  let v5 : BitVec 1 := Scalar.cmpi .ne v4 c0_i32_1
  v5

@[reducible] def k0_t1_loop : Scf.Loop 32 :=
  let c0_i32_67 : BitVec 32 := 0#32
  let c32_i32_68 : BitVec 32 := 32#32
  let v125 : BitVec 32 := Scalar.addi c0_i32_67 c32_i32_68
  let c1_i32_69 : BitVec 32 := 1#32
  ⟨c0_i32_67, v125, c1_i32_69⟩
def k0_off1 (i : grid0.Coords) (k0_t1 : Fin k0_t1_loop.trips) : Fin 2 → Nat :=
  let c5_i32 : BitVec 32 := 5#32
  let arg0 : BitVec 32 := BitVec.ofNat 32 (i 0).val
  let c32_i32 : BitVec 32 := 32#32
  let v122 : BitVec 32 := Scalar.muli arg0 c32_i32
  let c0_i32_67 : BitVec 32 := 0#32
  let c1_i32_69 : BitVec 32 := 1#32
  let arg21 : BitVec 32 := Scf.iv c0_i32_67 c1_i32_69 k0_t1
  let v133 : BitVec 32 := Scalar.addi v122 arg21
  let v134 : BitVec 32 := Scalar.muli c5_i32 v133
  let v135 : Index := Scalar.indexCast v134
  let c0_75 : Index := 0#32
  ![v135.toNat, 0]
def k0_off2 (i : grid0.Coords) (k0_t1 : Fin k0_t1_loop.trips) : Fin 2 → Nat :=
  let arg0 : BitVec 32 := BitVec.ofNat 32 (i 0).val
  let c32_i32 : BitVec 32 := 32#32
  let v122 : BitVec 32 := Scalar.muli arg0 c32_i32
  let c0_i32_67 : BitVec 32 := 0#32
  let c1_i32_69 : BitVec 32 := 1#32
  let arg21 : BitVec 32 := Scf.iv c0_i32_67 c1_i32_69 k0_t1
  let v133 : BitVec 32 := Scalar.addi v122 arg21
  let v282 : Index := Scalar.indexCast v133
  let c0_84 : Index := 0#32
  ![v282.toNat, 0]
def k0_off3 (i : grid0.Coords) : Fin 2 → Nat :=
  let c0 : Index := 0#32
  let c4_i32_5 : BitVec 32 := 4#32
  let c4_i32_4 : BitVec 32 := 4#32
  let arg0 : BitVec 32 := BitVec.ofNat 32 (i 0).val
  let v9 : BitVec 32 := Scalar.subi c4_i32_4 arg0
  let v10 : BitVec 32 := Scalar.muli c4_i32_5 v9
  let c1024_i32 : BitVec 32 := 1024#32
  let v11 : BitVec 32 := Scalar.muli v10 c1024_i32
  let v12 : Index := Scalar.indexCast v11
  ![0, v12.toNat]
def k0_off4 (i : grid0.Coords) (c1_i32 : BitVec 32) : Fin 2 → Nat :=
  let c0_8 : Index := 0#32
  let c4_i32_6 : BitVec 32 := 4#32
  let c4_i32_4 : BitVec 32 := 4#32
  let arg0 : BitVec 32 := BitVec.ofNat 32 (i 0).val
  let v9 : BitVec 32 := Scalar.subi c4_i32_4 arg0
  let v14 : BitVec 32 := Scalar.muli c4_i32_6 v9
  let v15 : BitVec 32 := Scalar.addi v14 c1_i32
  let c1024_i32_7 : BitVec 32 := 1024#32
  let v16 : BitVec 32 := Scalar.muli v15 c1024_i32_7
  let v17 : Index := Scalar.indexCast v16
  ![0, v17.toNat]
def k0_cond6 (i : grid0.Coords) : BitVec 1 :=
  let arg0 : BitVec 32 := BitVec.ofNat 32 (i 0).val
  let c4_i32_19 : BitVec 32 := 4#32
  let v35 : BitVec 1 := Scalar.cmpi .eq arg0 c4_i32_19
  let v36 : BitVec 32 := Scalar.extui v35
  let c0_i32_20 : BitVec 32 := 0#32
  let v37 : BitVec 1 := Scalar.cmpi .ne v36 c0_i32_20
  v37

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c4_i32 : BitVec 32 := 4#32
  let v0 : BitVec 32 := Scalar.subi c4_i32 arg0
  let c4_i32_0 : BitVec 32 := 4#32
  let v1 : BitVec 32 := Scalar.muli c4_i32_0 v0
  let c0_i32 : BitVec 32 := 0#32
  let c0_i32_1 : BitVec 32 := 0#32
  ![v1.toNat, c0_i32.toNat]

def cc0_transform_10 (i : grid0.Coords) : Fin 2 → Nat :=
  let arg0 : BitVec 32 := BitVec.ofNat 32 (i 0).val
  let c4_i32 : BitVec 32 := 4#32
  let v0 : BitVec 32 := Scalar.subi c4_i32 arg0
  let c4_i32_0 : BitVec 32 := 4#32
  let v1 : BitVec 32 := Scalar.muli c4_i32_0 v0
  let c1_i32 : BitVec 32 := 1#32
  let v2 : BitVec 32 := Scalar.addi v1 c1_i32
  let c0_i32 : BitVec 32 := 0#32
  let c0_i32_1 : BitVec 32 := 0#32
  ![v2.toNat, c0_i32.toNat]

def cc0_transform_11 (i : grid0.Coords) : Fin 2 → Nat :=
  let arg0 : BitVec 32 := BitVec.ofNat 32 (i 0).val
  let c4_i32 : BitVec 32 := 4#32
  let v0 : BitVec 32 := Scalar.subi c4_i32 arg0
  let c4_i32_0 : BitVec 32 := 4#32
  let v1 : BitVec 32 := Scalar.muli c4_i32_0 v0
  let c2_i32 : BitVec 32 := 2#32
  let v2 : BitVec 32 := Scalar.addi v1 c2_i32
  let c0_i32 : BitVec 32 := 0#32
  let c0_i32_1 : BitVec 32 := 0#32
  ![v2.toNat, c0_i32.toNat]

def cc0_transform_12 (i : grid0.Coords) : Fin 2 → Nat :=
  let arg0 : BitVec 32 := BitVec.ofNat 32 (i 0).val
  let c4_i32 : BitVec 32 := 4#32
  let v0 : BitVec 32 := Scalar.subi c4_i32 arg0
  let c4_i32_0 : BitVec 32 := 4#32
  let v1 : BitVec 32 := Scalar.muli c4_i32_0 v0
  let c3_i32 : BitVec 32 := 3#32
  let v2 : BitVec 32 := Scalar.addi v1 c3_i32
  let c18_i32 : BitVec 32 := 18#32
  let v3 : BitVec 32 := Scalar.minsi v2 c18_i32
  let c0_i32 : BitVec 32 := 0#32
  let c0_i32_1 : BitVec 32 := 0#32
  ![v3.toNat, c0_i32.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S5x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S856x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S5x5 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S5x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x640 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x640 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x640 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x640 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S640 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S5x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== ReferenceIdeal.lean ====
abbrev S5x128 : Shape := ⟨2, ![5, 128]⟩
abbrev S256x128 : Shape := ⟨2, ![256, 128]⟩
abbrev S128 : Shape := ⟨1, ![128]⟩
abbrev S5x5 : Shape := ⟨2, ![5, 5]⟩
abbrev S5 : Shape := ⟨1, ![5]⟩
abbrev S15x5 : Shape := ⟨2, ![15, 5]⟩
abbrev S15 : Shape := ⟨1, ![15]⟩
abbrev S128x16 : Shape := ⟨2, ![128, 16]⟩
abbrev S128x128 : Shape := ⟨2, ![128, 128]⟩
abbrev S5x16 : Shape := ⟨2, ![5, 16]⟩
abbrev S18537x640 : Shape := ⟨2, ![18537, 640]⟩
abbrev S640 : Shape := ⟨1, ![640]⟩
abbrev S_ : Shape := ⟨0, ![]⟩
abbrev S5x256 : Shape := ⟨2, ![5, 256]⟩
abbrev S1x128 : Shape := ⟨2, ![1, 128]⟩
abbrev S128x5 : Shape := ⟨2, ![128, 5]⟩
abbrev S1x5 : Shape := ⟨2, ![1, 5]⟩
abbrev S80 : Shape := ⟨1, ![80]⟩
abbrev S2048 : Shape := ⟨1, ![2048]⟩
abbrev S25 : Shape := ⟨1, ![25]⟩
abbrev S16384 : Shape := ⟨1, ![16384]⟩
abbrev S18537 : Shape := ⟨1, ![18537]⟩

abbrev nBuf : Space → Nat
  | .hbm => 146
  | .vmem => 0
  | .smem => 0
  | _ => 0

abbrev hbmTy0_0 (i : Nat) : BufTy := match i % 128 with
  | 0 => ⟨S5x128, .f32⟩
  | 1 => ⟨S5x128, .f32⟩
  | 2 => ⟨S256x128, .f32⟩
  | 3 => ⟨S128, .f32⟩
  | 4 => ⟨S5x5, .f32⟩
  | 5 => ⟨S5, .f32⟩
  | 6 => ⟨S15x5, .f32⟩
  | 7 => ⟨S15x5, .f32⟩
  | 8 => ⟨S15, .f32⟩
  | 9 => ⟨S15, .f32⟩
  | 10 => ⟨S5x5, .f32⟩
  | 11 => ⟨S128x16, .f32⟩
  | 12 => ⟨S128x128, .f32⟩
  | 13 => ⟨S5x16, .f32⟩
  | 14 => ⟨S18537x640, .f32⟩
  | 15 => ⟨S640, .f32⟩
  | 16 => ⟨S_, .f32⟩
  | 17 => ⟨S5x128, .i1⟩
  | 18 => ⟨S_, .f32⟩
  | 19 => ⟨S5x128, .f32⟩
  | 20 => ⟨S5x128, .f32⟩
  | 21 => ⟨S_, .f32⟩
  | 22 => ⟨S5x128, .f32⟩
  | 23 => ⟨S5x128, .i1⟩
  | 24 => ⟨S_, .f32⟩
  | 25 => ⟨S5x128, .f32⟩
  | 26 => ⟨S5x128, .f32⟩
  | 27 => ⟨S_, .f32⟩
  | 28 => ⟨S5x128, .f32⟩
  | 29 => ⟨S5x128, .i1⟩
  | 30 => ⟨S_, .f32⟩
  | 31 => ⟨S5x128, .f32⟩
  | 32 => ⟨S5x128, .f32⟩
  | 33 => ⟨S5x256, .f32⟩
  | 34 => ⟨S5x128, .f32⟩
  | 35 => ⟨S1x128, .f32⟩
  | 36 => ⟨S5x128, .f32⟩
  | 37 => ⟨S5x128, .f32⟩
  | 38 => ⟨S_, .f32⟩
  | 39 => ⟨S5x128, .f32⟩
  | 40 => ⟨S5x128, .f32⟩
  | 41 => ⟨S128x5, .f32⟩
  | 42 => ⟨S128x5, .f32⟩
  | 43 => ⟨S1x5, .f32⟩
  | 44 => ⟨S128x5, .f32⟩
  | 45 => ⟨S128x5, .f32⟩
  | 46 => ⟨S_, .f32⟩
  | 47 => ⟨S128x5, .f32⟩
  | 48 => ⟨S128x5, .f32⟩
  | 49 => ⟨S_, .f32⟩
  | 50 => ⟨S5, .f32⟩
  | 51 => ⟨S_, .f32⟩
  | 52 => ⟨S128x5, .f32⟩
  | 53 => ⟨S_, .i32⟩
  | 54 => ⟨S128x5, .f32⟩
  | 55 => ⟨S15x5, .f32⟩
  | 56 => ⟨S15, .f32⟩
  | 57 => ⟨S15x5, .f32⟩
  | 58 => ⟨S15, .f32⟩
  | 59 => ⟨S_, .i32⟩
  | 60 => ⟨S5, .f32⟩
  | 61 => ⟨S128x5, .f32⟩
  | 62 => ⟨S_, .i32⟩
  | 63 => ⟨S_, .i1⟩
  | 64 => ⟨S_, .i32⟩
  | 65 => ⟨S1x5, .f32⟩
  | 66 => ⟨S5, .f32⟩
  | 67 => ⟨S15, .f32⟩
  | 68 => ⟨S15, .f32⟩
  | 69 => ⟨S15, .f32⟩
  | 70 => ⟨S15, .f32⟩
  | 71 => ⟨S5, .f32⟩
  | 72 => ⟨S5, .f32⟩
  | 73 => ⟨S5, .f32⟩
  | 74 => ⟨S5, .f32⟩
  | 75 => ⟨S5, .f32⟩
  | 76 => ⟨S_, .f32⟩
  | 77 => ⟨S5, .f32⟩
  | 78 => ⟨S5, .f32⟩
  | 79 => ⟨S_, .f32⟩
  | 80 => ⟨S5, .f32⟩
  | 81 => ⟨S5, .f32⟩
  | 82 => ⟨S5, .f32⟩
  | 83 => ⟨S5, .f32⟩
  | 84 => ⟨S5, .f32⟩
  | 85 => ⟨S5, .f32⟩
  | 86 => ⟨S5, .f32⟩
  | 87 => ⟨S_, .f32⟩
  | 88 => ⟨S5, .f32⟩
  | 89 => ⟨S5, .f32⟩
  | 90 => ⟨S_, .f32⟩
  | 91 => ⟨S5, .f32⟩
  | 92 => ⟨S5, .f32⟩
  | 93 => ⟨S5, .f32⟩
  | 94 => ⟨S5, .f32⟩
  | 95 => ⟨S5, .f32⟩
  | 96 => ⟨S5, .f32⟩
  | 97 => ⟨S5, .f32⟩
  | 98 => ⟨S_, .f32⟩
  | 99 => ⟨S5, .f32⟩
  | 100 => ⟨S5, .f32⟩
  | 101 => ⟨S5, .f32⟩
  | 102 => ⟨S5, .f32⟩
  | 103 => ⟨S5, .f32⟩
  | 104 => ⟨S1x5, .f32⟩
  | 105 => ⟨S_, .i32⟩
  | 106 => ⟨S128x5, .f32⟩
  | 107 => ⟨S_, .i32⟩
  | 108 => ⟨S_, .i32⟩
  | 109 => ⟨S_, .f32⟩
  | 110 => ⟨S5x5, .f32⟩
  | 111 => ⟨S_, .f32⟩
  | 112 => ⟨S128x128, .f32⟩
  | 113 => ⟨S5x5, .f32⟩
  | 114 => ⟨S5x5, .f32⟩
  | 115 => ⟨S5x5, .f32⟩
  | 116 => ⟨S_, .f32⟩
  | 117 => ⟨S5x5, .f32⟩
  | 118 => ⟨S5x5, .f32⟩
  | 119 => ⟨S_, .f32⟩
  | 120 => ⟨S5x5, .f32⟩
  | 121 => ⟨S5x5, .f32⟩
  | 122 => ⟨S5x16, .f32⟩
  | 123 => ⟨S5x16, .f32⟩
  | 124 => ⟨S128x128, .f32⟩
  | 125 => ⟨S128x128, .f32⟩
  | 126 => ⟨S128x128, .f32⟩
  | 127 => ⟨S_, .f32⟩
  | _ => ⟨S5x128, .f32⟩

abbrev hbmTy0_1 (i : Nat) : BufTy := match i % 128 with
  | 0 => ⟨S128x128, .f32⟩
  | 1 => ⟨S128x128, .f32⟩
  | 2 => ⟨S_, .f32⟩
  | 3 => ⟨S128x128, .f32⟩
  | 4 => ⟨S128x128, .f32⟩
  | 5 => ⟨S128x16, .f32⟩
  | 6 => ⟨S128x16, .f32⟩
  | 7 => ⟨S80, .f32⟩
  | 8 => ⟨S2048, .f32⟩
  | 9 => ⟨S25, .f32⟩
  | 10 => ⟨S16384, .f32⟩
  | 11 => ⟨S18537, .f32⟩
  | 12 => ⟨S640, .f32⟩
  | 13 => ⟨S640, .f32⟩
  | 14 => ⟨S_, .f32⟩
  | 15 => ⟨S640, .f32⟩
  | 16 => ⟨S640, .f32⟩
  | 17 => ⟨S5x128, .f32⟩
  | _ => ⟨S5x128, .f32⟩

abbrev hbmTy (i : Nat) : BufTy := match i / 128 with
  | 0 => hbmTy0_0 i
  | 1 => hbmTy0_1 i
  | _ => ⟨S5x128, .f32⟩

abbrev bufTy : (tb : Table) → Fin (tcTables nBuf tb) → BufTy
  | .hbm, ⟨i, _⟩ => hbmTy i
  | _, _ => ⟨S5x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_call0_v0 : Ref sig .tc := ⟨.hbm, 17, rfl⟩
abbrev main_call0_v1 : Ref sig .tc := ⟨.hbm, 18, rfl⟩
abbrev main_call0_call0_v0 : Ref sig .tc := ⟨.hbm, 19, rfl⟩
abbrev main_call0_v2 : Ref sig .tc := ⟨.hbm, 20, rfl⟩
abbrev main_call0_cst : Ref sig .tc := ⟨.hbm, 21, rfl⟩
abbrev main_call0_v3 : Ref sig .tc := ⟨.hbm, 22, rfl⟩
abbrev main_call0_v4 : Ref sig .tc := ⟨.hbm, 23, rfl⟩
abbrev main_call0_cst_0 : Ref sig .tc := ⟨.hbm, 24, rfl⟩
abbrev main_call0_call1_v0 : Ref sig .tc := ⟨.hbm, 25, rfl⟩
abbrev main_call0_v5 : Ref sig .tc := ⟨.hbm, 26, rfl⟩
abbrev main_call0_cst_1 : Ref sig .tc := ⟨.hbm, 27, rfl⟩
abbrev main_call0_v6 : Ref sig .tc := ⟨.hbm, 28, rfl⟩
abbrev main_call0_v7 : Ref sig .tc := ⟨.hbm, 29, rfl⟩
abbrev main_call0_cst_2 : Ref sig .tc := ⟨.hbm, 30, rfl⟩
abbrev main_call0_call2_v0 : Ref sig .tc := ⟨.hbm, 31, rfl⟩
abbrev main_v0 : Ref sig .tc := ⟨.hbm, 32, rfl⟩
abbrev main_v1 : Ref sig .tc := ⟨.hbm, 33, rfl⟩
abbrev main_v2 : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_call1_cst : Ref sig .tc := ⟨.hbm, 38, rfl⟩
abbrev main_call1_v0 : Ref sig .tc := ⟨.hbm, 39, rfl⟩
abbrev main_v6 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_call2_cst : Ref sig .tc := ⟨.hbm, 46, rfl⟩
abbrev main_call2_v0 : Ref sig .tc := ⟨.hbm, 47, rfl⟩
abbrev main_v12 : Ref sig .tc := ⟨.hbm, 48, rfl⟩
abbrev main_cst_0 : Ref sig .tc := ⟨.hbm, 49, rfl⟩
abbrev main_v13 : Ref sig .tc := ⟨.hbm, 50, rfl⟩
abbrev main_cst_1 : Ref sig .tc := ⟨.hbm, 51, rfl⟩
abbrev main_v14 : Ref sig .tc := ⟨.hbm, 52, rfl⟩
abbrev main_c : Ref sig .tc := ⟨.hbm, 53, rfl⟩
abbrev main_v15_0 : Ref sig .tc := ⟨.hbm, 54, rfl⟩
abbrev main_v15_1 : Ref sig .tc := ⟨.hbm, 55, rfl⟩
abbrev main_v15_2 : Ref sig .tc := ⟨.hbm, 56, rfl⟩
abbrev main_v15_3 : Ref sig .tc := ⟨.hbm, 57, rfl⟩
abbrev main_v15_4 : Ref sig .tc := ⟨.hbm, 58, rfl⟩
abbrev main_v15_5 : Ref sig .tc := ⟨.hbm, 59, rfl⟩
abbrev main_v15_6 : Ref sig .tc := ⟨.hbm, 60, rfl⟩
abbrev main_v15_7 : Ref sig .tc := ⟨.hbm, 61, rfl⟩
abbrev main_while0c_c_15 : Ref sig .tc := ⟨.hbm, 62, rfl⟩
abbrev main_while0c_v45 : Ref sig .tc := ⟨.hbm, 63, rfl⟩
abbrev main_while0b_call3_c : Ref sig .tc := ⟨.hbm, 64, rfl⟩
abbrev main_while0b_call3_v0 : Ref sig .tc := ⟨.hbm, 65, rfl⟩
abbrev main_while0b_v45 : Ref sig .tc := ⟨.hbm, 66, rfl⟩
abbrev main_while0b_v46 : Ref sig .tc := ⟨.hbm, 67, rfl⟩
abbrev main_while0b_v47 : Ref sig .tc := ⟨.hbm, 68, rfl⟩
abbrev main_while0b_v48 : Ref sig .tc := ⟨.hbm, 69, rfl⟩
abbrev main_while0b_v49 : Ref sig .tc := ⟨.hbm, 70, rfl⟩
abbrev main_while0b_v50 : Ref sig .tc := ⟨.hbm, 71, rfl⟩
abbrev main_while0b_v51 : Ref sig .tc := ⟨.hbm, 72, rfl⟩
abbrev main_while0b_v52 : Ref sig .tc := ⟨.hbm, 73, rfl⟩
abbrev main_while0b_v53 : Ref sig .tc := ⟨.hbm, 74, rfl⟩
abbrev main_while0b_v54 : Ref sig .tc := ⟨.hbm, 75, rfl⟩
abbrev main_while0b_cst_15 : Ref sig .tc := ⟨.hbm, 76, rfl⟩
abbrev main_while0b_v55 : Ref sig .tc := ⟨.hbm, 77, rfl⟩
abbrev main_while0b_v56 : Ref sig .tc := ⟨.hbm, 78, rfl⟩
abbrev main_while0b_cst_16 : Ref sig .tc := ⟨.hbm, 79, rfl⟩
abbrev main_while0b_v57 : Ref sig .tc := ⟨.hbm, 80, rfl⟩
abbrev main_while0b_v58 : Ref sig .tc := ⟨.hbm, 81, rfl⟩
abbrev main_while0b_v59 : Ref sig .tc := ⟨.hbm, 82, rfl⟩
abbrev main_while0b_v60 : Ref sig .tc := ⟨.hbm, 83, rfl⟩
abbrev main_while0b_v61 : Ref sig .tc := ⟨.hbm, 84, rfl⟩
abbrev main_while0b_v62 : Ref sig .tc := ⟨.hbm, 85, rfl⟩
abbrev main_while0b_v63 : Ref sig .tc := ⟨.hbm, 86, rfl⟩
abbrev main_while0b_cst_17 : Ref sig .tc := ⟨.hbm, 87, rfl⟩
abbrev main_while0b_v64 : Ref sig .tc := ⟨.hbm, 88, rfl⟩
abbrev main_while0b_v65 : Ref sig .tc := ⟨.hbm, 89, rfl⟩
abbrev main_while0b_cst_18 : Ref sig .tc := ⟨.hbm, 90, rfl⟩
abbrev main_while0b_v66 : Ref sig .tc := ⟨.hbm, 91, rfl⟩
abbrev main_while0b_v67 : Ref sig .tc := ⟨.hbm, 92, rfl⟩
abbrev main_while0b_v68 : Ref sig .tc := ⟨.hbm, 93, rfl⟩
abbrev main_while0b_v69 : Ref sig .tc := ⟨.hbm, 94, rfl⟩
abbrev main_while0b_v70 : Ref sig .tc := ⟨.hbm, 95, rfl⟩
abbrev main_while0b_v71 : Ref sig .tc := ⟨.hbm, 96, rfl⟩
abbrev main_while0b_v72 : Ref sig .tc := ⟨.hbm, 97, rfl⟩
abbrev main_while0b_cst_19 : Ref sig .tc := ⟨.hbm, 98, rfl⟩
abbrev main_while0b_v73 : Ref sig .tc := ⟨.hbm, 99, rfl⟩
abbrev main_while0b_v74 : Ref sig .tc := ⟨.hbm, 100, rfl⟩
abbrev main_while0b_v75 : Ref sig .tc := ⟨.hbm, 101, rfl⟩
abbrev main_while0b_v76 : Ref sig .tc := ⟨.hbm, 102, rfl⟩
abbrev main_while0b_v77 : Ref sig .tc := ⟨.hbm, 103, rfl⟩
abbrev main_while0b_call4_v0 : Ref sig .tc := ⟨.hbm, 104, rfl⟩
abbrev main_while0b_call4_c : Ref sig .tc := ⟨.hbm, 105, rfl⟩
abbrev main_while0b_v78 : Ref sig .tc := ⟨.hbm, 106, rfl⟩
abbrev main_while0b_c_20 : Ref sig .tc := ⟨.hbm, 107, rfl⟩
abbrev main_while0b_v79 : Ref sig .tc := ⟨.hbm, 108, rfl⟩
abbrev main_cst_2 : Ref sig .tc := ⟨.hbm, 109, rfl⟩
abbrev main_v16 : Ref sig .tc := ⟨.hbm, 110, rfl⟩
abbrev main_cst_3 : Ref sig .tc := ⟨.hbm, 111, rfl⟩
abbrev main_v17 : Ref sig .tc := ⟨.hbm, 112, rfl⟩
abbrev main_v18 : Ref sig .tc := ⟨.hbm, 113, rfl⟩
abbrev main_v19 : Ref sig .tc := ⟨.hbm, 114, rfl⟩
abbrev main_v20 : Ref sig .tc := ⟨.hbm, 115, rfl⟩
abbrev main_cst_4 : Ref sig .tc := ⟨.hbm, 116, rfl⟩
abbrev main_v21 : Ref sig .tc := ⟨.hbm, 117, rfl⟩
abbrev main_v22 : Ref sig .tc := ⟨.hbm, 118, rfl⟩
abbrev main_cst_5 : Ref sig .tc := ⟨.hbm, 119, rfl⟩
abbrev main_v23 : Ref sig .tc := ⟨.hbm, 120, rfl⟩
abbrev main_v24 : Ref sig .tc := ⟨.hbm, 121, rfl⟩
abbrev main_v25 : Ref sig .tc := ⟨.hbm, 122, rfl⟩
abbrev main_v26 : Ref sig .tc := ⟨.hbm, 123, rfl⟩
abbrev main_v27 : Ref sig .tc := ⟨.hbm, 124, rfl⟩
abbrev main_v28 : Ref sig .tc := ⟨.hbm, 125, rfl⟩
abbrev main_v29 : Ref sig .tc := ⟨.hbm, 126, rfl⟩
abbrev main_cst_6 : Ref sig .tc := ⟨.hbm, 127, rfl⟩
abbrev main_v30 : Ref sig .tc := ⟨.hbm, 128, rfl⟩
abbrev main_v31 : Ref sig .tc := ⟨.hbm, 129, rfl⟩
abbrev main_cst_7 : Ref sig .tc := ⟨.hbm, 130, rfl⟩
abbrev main_v32 : Ref sig .tc := ⟨.hbm, 131, rfl⟩
abbrev main_v33 : Ref sig .tc := ⟨.hbm, 132, rfl⟩
abbrev main_v34 : Ref sig .tc := ⟨.hbm, 133, rfl⟩
abbrev main_v35 : Ref sig .tc := ⟨.hbm, 134, rfl⟩
abbrev main_v36 : Ref sig .tc := ⟨.hbm, 135, rfl⟩
abbrev main_v37 : Ref sig .tc := ⟨.hbm, 136, rfl⟩
abbrev main_v38 : Ref sig .tc := ⟨.hbm, 137, rfl⟩
abbrev main_v39 : Ref sig .tc := ⟨.hbm, 138, rfl⟩
abbrev main_v40 : Ref sig .tc := ⟨.hbm, 139, rfl⟩
abbrev main_v41 : Ref sig .tc := ⟨.hbm, 140, rfl⟩
abbrev main_v42 : Ref sig .tc := ⟨.hbm, 141, rfl⟩
abbrev main_call5_cst : Ref sig .tc := ⟨.hbm, 142, rfl⟩
abbrev main_call5_v0 : Ref sig .tc := ⟨.hbm, 143, rfl⟩
abbrev main_v43 : Ref sig .tc := ⟨.hbm, 144, rfl⟩
abbrev main_v44 : Ref sig .tc := ⟨.hbm, 145, rfl⟩

abbrev nD : Nat := 1
abbrev τ : Topo := Topo.v7x

variable {F : FTy → Type} [FloatOps F]

abbrev main_while0_count : Scf.Loop 32 := ⟨0#32, 128#32, 1#32⟩
-- ==== Proof.KernelIdealKit.lean ====
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What core `c`'s buffers hold when the kernel is launched: the host operations before it have run. -/
abbrev V (c : Dev nD) (b : Ref sig .tc) : Buf (Elt F) ((c : Thread nD τ).loc b) :=
  StableHlo.after hostOps0 (fun b => m (c, b)) b

/-- None of the host operations before the kernel makes a buffer of its own. -/
theorem host_fresh : (hostOps0 : List (HloOp τ sig (Elt F))).Forall fun op => op.fresh = ∅ := by
  simp only [List.Forall]; repeat' constructor

set_option maxHeartbeats 800000 in
/-- The main function is its host operations followed by the kernel. -/
theorem main_split (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub host_fresh main_chain

/-- A buffer that no host operation writes is found as launched. -/
theorem V_of (b : Ref sig .tc) (c : Dev nD)
    (h : (hostOps0 : List (HloOp τ sig (Elt F))).Forall fun op => Proc.devRef .tc b ∉ op.writes) :
    V m c b = m ((c : Thread nD τ).loc b) :=
  StableHlo.after_of_forall_not_mem (b := Proc.devRef .tc b) _ _ (List.forall_iff_forall_mem.mp h)

/-- The host operations before the kernel write none of the sixteen arguments. -/
theorem host_writes (b : Ref sig .tc) (hb : b ∈ [main_arg0, main_arg1, main_arg2, main_arg3, main_arg4, main_arg5, main_arg6, main_arg7, main_arg8, main_arg9, main_arg10, main_arg11, main_arg12, main_arg13, main_arg14, main_arg15]) :
    (hostOps0 : List (HloOp τ sig (Elt F))).Forall fun op => Proc.devRef .tc b ∉ op.writes := by
  simp only [hostOps0, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.nary_writes,
    StableHlo.binaryIndexed_writes, Finset.mem_singleton]
  repeat' apply And.intro
  all_goals exact StableHlo.devRef_ne_of_ne (by revert b; decide)

/-- The kernel finds each of the sixteen arguments as launched. -/
theorem V_arg (b : Ref sig .tc) (hb : b ∈ [main_arg0, main_arg1, main_arg2, main_arg3, main_arg4, main_arg5, main_arg6, main_arg7, main_arg8, main_arg9, main_arg10, main_arg11, main_arg12, main_arg13, main_arg14, main_arg15]) (c : Dev nD) :
    V m c b = m ((c : Thread nD τ).loc b) := V_of m b c (host_writes b hb)

/-! ## The body's six branch conditions -/

/-- The first branch: the first grid point. -/
abbrev cond0 (i : grid0.Coords) : Prop := (Scalar.cmpi .ne (Scalar.extui (Scalar.cmpi .eq (BitVec.ofNat 32 (i 0).val) 0#32)) 0#32) = 1#1
/-- The second branch: the points that advance the recurrence. -/
abbrev cond1 (i : grid0.Coords) : Prop := k0_cond2 i = 1#1
/-- The third branch: the last grid point, which completes the row of features. -/
abbrev cond2 (i : grid0.Coords) : Prop := (Scalar.cmpi .ne (Scalar.extui (Scalar.cmpi .eq (BitVec.ofNat 32 (i 0).val) 4#32)) 0#32) = 1#1
/-- The fourth branch: the points whose four weight blocks are whole. -/
abbrev cond3 (i : grid0.Coords) : Prop := (Scalar.cmpi .ne (Scalar.extui (Scalar.cmpi .sgt (BitVec.ofNat 32 (i 0).val) 0#32)) 0#32) = 1#1
/-- The fifth branch: the point whose weight blocks reach the array's end. -/
abbrev cond4 (i : grid0.Coords) : Prop := (Scalar.cmpi .ne (Scalar.extui (Scalar.cmpi .eq (BitVec.ofNat 32 (i 0).val) 0#32)) 0#32) = 1#1
/-- The sixth branch: the last grid point, which stores the result. -/
abbrev cond5 (i : grid0.Coords) : Prop := k0_cond6 i = 1#1

/-- Which branches are taken at which of the five points. -/
theorem cond_iff : ∀ t : Fin grid0.N, (cond0 (grid0.coords t) ↔ t.val = 0) ∧ (cond1 (grid0.coords t) ↔ t.val < 4)
    ∧ (cond2 (grid0.coords t) ↔ t.val = 4) ∧ (cond3 (grid0.coords t) ↔ 0 < t.val)
    ∧ (cond4 (grid0.coords t) ↔ t.val = 0) ∧ (cond5 (grid0.coords t) ↔ t.val = 4) := by decide +kernel

/-! ## The scratch buffers -/

/-- The scratch buffers, as the body is passed them: first that of the feature row. -/
abbrev scM0 : Memref sig .tc .vmem S1x20480 .f32 := Memref.whole cc0_scratch0
/-- The scratch buffer of the accumulator. -/
abbrev scM1 : Memref sig .tc .vmem S1x640 .f32 := Memref.whole cc0_scratch1
/-- The scratch buffer of the static adjacency's column. -/
abbrev scM2 : Memref sig .tc .vmem S128x1 .f32 := Memref.whole cc0_scratch2
/-- The scratch buffer of the state. -/
abbrev scM3 : Memref sig .tc .vmem S5x1 .f32 := Memref.whole cc0_scratch3
/-- The scratch buffer of the weighted states. -/
abbrev scM4 : Memref sig .tc .vmem S5x1 .f32 := Memref.whole cc0_scratch4

/-- The launch's scratch, spelled out: the five buffers at some contents and the generator's register. -/
theorem scratch_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d) ∗ (∃ d, owns (c : Thread nD τ) scM4 fullShare d)) ∗ (∃ r, prngReg c r)) := by
  unfold Pipeline.ΦA; rw [scopedRest0_eq]; simp only [scM0, scM1, scM2, scM3, scM4, owns_whole]; try rfl

end Cert.KernelIdeal.Hand

end
-- ==== Proof.KernelIdealRunA.lean ====
module

public import proofs.«01_k».proof.Proof.KernelIdealKit

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

set_option maxHeartbeats 4000000 in
/-- At the first point the body runs from every buffer at given contents: it leaves the buffers it does not store into as they
    were, and each other one with a list of stored pieces over what it held. The lists are what the run finds. -/
noncomputable def runA (c : Dev nD) (i : grid0.Coords) (arg1 : Memref sig .tc .vmem S5x128 .f32) (harg1 : arg1.IsWhole) (arg2 : Memref sig .tc .vmem S856x1 .f32) (harg2 : arg2.IsWhole) (arg3 : Memref sig .tc .vmem S5x128 .f32) (harg3 : arg3.IsWhole) (arg4 : Memref sig .tc .vmem S256x128 .f32) (harg4 : arg4.IsWhole) (arg5 : Memref sig .tc .vmem S128 .f32) (harg5 : arg5.IsWhole) (arg6 : Memref sig .tc .vmem S5x5 .f32) (harg6 : arg6.IsWhole) (arg7 : Memref sig .tc .vmem S128x16 .f32) (harg7 : arg7.IsWhole) (arg8 : Memref sig .tc .vmem S128x128 .f32) (harg8 : arg8.IsWhole) (arg9 : Memref sig .tc .vmem S5x16 .f32) (harg9 : arg9.IsWhole) (arg10 : Memref sig .tc .vmem S1024x640 .f32) (harg10 : arg10.IsWhole) (arg11 : Memref sig .tc .vmem S1024x640 .f32) (harg11 : arg11.IsWhole) (arg12 : Memref sig .tc .vmem S1024x640 .f32) (harg12 : arg12.IsWhole) (arg13 : Memref sig .tc .vmem S1024x640 .f32) (harg13 : arg13.IsWhole) (arg14 : Memref sig .tc .vmem S640 .f32) (harg14 : arg14.IsWhole) (arg15 : Memref sig .tc .vmem S5x128 .f32) (harg15 : arg15.IsWhole) (arg16 : Memref sig .tc .vmem S1x20480 .f32) (harg16 : arg16.IsWhole) (arg17 : Memref sig .tc .vmem S1x640 .f32) (harg17 : arg17.IsWhole) (arg18 : Memref sig .tc .vmem S128x1 .f32) (harg18 : arg18.IsWhole) (arg19 : Memref sig .tc .vmem S5x1 .f32) (harg19 : arg19.IsWhole) (arg20 : Memref sig .tc .vmem S5x1 .f32) (harg20 : arg20.IsWhole) (hc0 : cond0 i) (hc1 : cond1 i) (hc2 : ¬cond2 i) (hc3 : ¬cond3 i) (hc4 : cond4 i) (hc5 : ¬cond5 i)
    (x0 : Vec F S5x128 .f32) (x1 : Vec F S856x1 .f32) (x2 : Vec F S5x128 .f32) (x3 : Vec F S256x128 .f32) (x4 : Vec F S128 .f32) (x5 : Vec F S5x5 .f32) (x6 : Vec F S128x16 .f32) (x7 : Vec F S128x128 .f32) (x8 : Vec F S5x16 .f32) (x9 : Vec F S1024x640 .f32) (x10 : Vec F S1024x640 .f32) (x11 : Vec F S1024x640 .f32) (x12 : Vec F S1024x640 .f32) (x13 : Vec F S640 .f32) (x14 : Vec F S5x128 .f32) (x15 : Vec F S1x20480 .f32) (x16 : Vec F S1x640 .f32) (x17 : Vec F S128x1 .f32) (x18 : Vec F S5x1 .f32) (x19 : Vec F S5x1 .f32) :
    Σ' (L15 : List (View.Piece (Elt F) S1x20480 .f32)), Σ' (L16 : List (View.Piece (Elt F) S1x640 .f32)), Σ' (L17 : List (View.Piece (Elt F) S128x1 .f32)), Σ' (L18 : List (View.Piece (Elt F) S5x1 .f32)), { L19 : List (View.Piece (Elt F) S5x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (arg16.view.loc (c : Thread nD τ) ↦[arg16.view.set]{fullShare} arg16.view.writes (Elt F) (harg16.unread x15) L15) ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, ?_, ?_, fun E K => ?run⟩
  case run =>
    simp only [cc0__body_eq_skeleton]; unfold cc0__body_skel
    simp only [k0_part34_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part17_eq_skeleton, k0_part18_eq_skeleton, k0_part19_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19
    sl_exec (disch := first | sl_exact hc0 | sl_exact hc1 | sl_exact hc2 | sl_exact hc3 | sl_exact hc4 | sl_exact hc5)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexact H15
    isplitl [H16]
    · iexists _; iexact H16
    isplitl [H17]
    · iexists _; iexact H17
    isplitl [H18]
    · iexists _; iexact H18
    iexists _; iexact H19

end Cert.KernelIdeal.Hand

end
-- ==== Proof.KernelIdealRunB.lean ====
module

public import proofs.«01_k».proof.Proof.KernelIdealKit

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

set_option maxHeartbeats 4000000 in
/-- At the three points between the body runs from every buffer at given contents: it leaves the buffers it does not store into as they
    were, and each other one with a list of stored pieces over what it held. The lists are what the run finds. -/
noncomputable def runB (c : Dev nD) (i : grid0.Coords) (arg1 : Memref sig .tc .vmem S5x128 .f32) (harg1 : arg1.IsWhole) (arg2 : Memref sig .tc .vmem S856x1 .f32) (harg2 : arg2.IsWhole) (arg3 : Memref sig .tc .vmem S5x128 .f32) (harg3 : arg3.IsWhole) (arg4 : Memref sig .tc .vmem S256x128 .f32) (harg4 : arg4.IsWhole) (arg5 : Memref sig .tc .vmem S128 .f32) (harg5 : arg5.IsWhole) (arg6 : Memref sig .tc .vmem S5x5 .f32) (harg6 : arg6.IsWhole) (arg7 : Memref sig .tc .vmem S128x16 .f32) (harg7 : arg7.IsWhole) (arg8 : Memref sig .tc .vmem S128x128 .f32) (harg8 : arg8.IsWhole) (arg9 : Memref sig .tc .vmem S5x16 .f32) (harg9 : arg9.IsWhole) (arg10 : Memref sig .tc .vmem S1024x640 .f32) (harg10 : arg10.IsWhole) (arg11 : Memref sig .tc .vmem S1024x640 .f32) (harg11 : arg11.IsWhole) (arg12 : Memref sig .tc .vmem S1024x640 .f32) (harg12 : arg12.IsWhole) (arg13 : Memref sig .tc .vmem S1024x640 .f32) (harg13 : arg13.IsWhole) (arg14 : Memref sig .tc .vmem S640 .f32) (harg14 : arg14.IsWhole) (arg15 : Memref sig .tc .vmem S5x128 .f32) (harg15 : arg15.IsWhole) (arg16 : Memref sig .tc .vmem S1x20480 .f32) (harg16 : arg16.IsWhole) (arg17 : Memref sig .tc .vmem S1x640 .f32) (harg17 : arg17.IsWhole) (arg18 : Memref sig .tc .vmem S128x1 .f32) (harg18 : arg18.IsWhole) (arg19 : Memref sig .tc .vmem S5x1 .f32) (harg19 : arg19.IsWhole) (arg20 : Memref sig .tc .vmem S5x1 .f32) (harg20 : arg20.IsWhole) (hc0 : ¬cond0 i) (hc1 : cond1 i) (hc2 : ¬cond2 i) (hc3 : cond3 i) (hc4 : ¬cond4 i) (hc5 : ¬cond5 i)
    (x0 : Vec F S5x128 .f32) (x1 : Vec F S856x1 .f32) (x2 : Vec F S5x128 .f32) (x3 : Vec F S256x128 .f32) (x4 : Vec F S128 .f32) (x5 : Vec F S5x5 .f32) (x6 : Vec F S128x16 .f32) (x7 : Vec F S128x128 .f32) (x8 : Vec F S5x16 .f32) (x9 : Vec F S1024x640 .f32) (x10 : Vec F S1024x640 .f32) (x11 : Vec F S1024x640 .f32) (x12 : Vec F S1024x640 .f32) (x13 : Vec F S640 .f32) (x14 : Vec F S5x128 .f32) (x15 : Vec F S1x20480 .f32) (x16 : Vec F S1x640 .f32) (x17 : Vec F S128x1 .f32) (x18 : Vec F S5x1 .f32) (x19 : Vec F S5x1 .f32) :
    Σ' (L16 : List (View.Piece (Elt F) S1x640 .f32)), Σ' (L18 : List (View.Piece (Elt F) S5x1 .f32)), { L19 : List (View.Piece (Elt F) S5x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (arg17.view.loc (c : Thread nD τ) ↦[arg17.view.set]{fullShare} arg17.view.writes (Elt F) (harg17.unread x16) L16) ∗ owns (c : Thread nD τ) arg18 fullShare x17 ∗ (arg19.view.loc (c : Thread nD τ) ↦[arg19.view.set]{fullShare} arg19.view.writes (Elt F) (harg19.unread x18) L18) ∗ (arg20.view.loc (c : Thread nD τ) ↦[arg20.view.set]{fullShare} arg20.view.writes (Elt F) (harg20.unread x19) L19)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, fun E K => ?run⟩
  case run =>
    simp only [cc0__body_eq_skeleton]; unfold cc0__body_skel
    simp only [k0_part34_eq_skeleton, k0_part17_eq_skeleton, k0_part18_eq_skeleton, k0_part19_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19
    sl_exec (disch := first | sl_exact hc0 | sl_exact hc1 | sl_exact hc2 | sl_exact hc3 | sl_exact hc4 | sl_exact hc5)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexact H16
    isplitl [H17]
    · iexists _; isplitr; · ipureintro; exact harg18.read_unread _
      iexact H17
    isplitl [H18]
    · iexact H18
    iexact H19

end Cert.KernelIdeal.Hand

end
-- ==== Proof.KernelIdealRunC.lean ====
module

public import proofs.«01_k».proof.Proof.KernelIdealKit

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

set_option maxHeartbeats 4000000 in
/-- At the last point the body runs from every buffer at given contents: it leaves the buffers it does not store into as they
    were, and each other one with a list of stored pieces over what it held. The lists are what the run finds. -/
noncomputable def runC (c : Dev nD) (i : grid0.Coords) (arg1 : Memref sig .tc .vmem S5x128 .f32) (harg1 : arg1.IsWhole) (arg2 : Memref sig .tc .vmem S856x1 .f32) (harg2 : arg2.IsWhole) (arg3 : Memref sig .tc .vmem S5x128 .f32) (harg3 : arg3.IsWhole) (arg4 : Memref sig .tc .vmem S256x128 .f32) (harg4 : arg4.IsWhole) (arg5 : Memref sig .tc .vmem S128 .f32) (harg5 : arg5.IsWhole) (arg6 : Memref sig .tc .vmem S5x5 .f32) (harg6 : arg6.IsWhole) (arg7 : Memref sig .tc .vmem S128x16 .f32) (harg7 : arg7.IsWhole) (arg8 : Memref sig .tc .vmem S128x128 .f32) (harg8 : arg8.IsWhole) (arg9 : Memref sig .tc .vmem S5x16 .f32) (harg9 : arg9.IsWhole) (arg10 : Memref sig .tc .vmem S1024x640 .f32) (harg10 : arg10.IsWhole) (arg11 : Memref sig .tc .vmem S1024x640 .f32) (harg11 : arg11.IsWhole) (arg12 : Memref sig .tc .vmem S1024x640 .f32) (harg12 : arg12.IsWhole) (arg13 : Memref sig .tc .vmem S1024x640 .f32) (harg13 : arg13.IsWhole) (arg14 : Memref sig .tc .vmem S640 .f32) (harg14 : arg14.IsWhole) (arg15 : Memref sig .tc .vmem S5x128 .f32) (harg15 : arg15.IsWhole) (arg16 : Memref sig .tc .vmem S1x20480 .f32) (harg16 : arg16.IsWhole) (arg17 : Memref sig .tc .vmem S1x640 .f32) (harg17 : arg17.IsWhole) (arg18 : Memref sig .tc .vmem S128x1 .f32) (harg18 : arg18.IsWhole) (arg19 : Memref sig .tc .vmem S5x1 .f32) (harg19 : arg19.IsWhole) (arg20 : Memref sig .tc .vmem S5x1 .f32) (harg20 : arg20.IsWhole) (hc0 : ¬cond0 i) (hc1 : ¬cond1 i) (hc2 : cond2 i) (hc3 : cond3 i) (hc4 : ¬cond4 i) (hc5 : cond5 i)
    (x0 : Vec F S5x128 .f32) (x1 : Vec F S856x1 .f32) (x2 : Vec F S5x128 .f32) (x3 : Vec F S256x128 .f32) (x4 : Vec F S128 .f32) (x5 : Vec F S5x5 .f32) (x6 : Vec F S128x16 .f32) (x7 : Vec F S128x128 .f32) (x8 : Vec F S5x16 .f32) (x9 : Vec F S1024x640 .f32) (x10 : Vec F S1024x640 .f32) (x11 : Vec F S1024x640 .f32) (x12 : Vec F S1024x640 .f32) (x13 : Vec F S640 .f32) (x14 : Vec F S5x128 .f32) (x15 : Vec F S1x20480 .f32) (x16 : Vec F S1x640 .f32) (x17 : Vec F S128x1 .f32) (x18 : Vec F S5x1 .f32) (x19 : Vec F S5x1 .f32) :
    Σ' (L14 : List (View.Piece (Elt F) S5x128 .f32)), Σ' (L15 : List (View.Piece (Elt F) S1x20480 .f32)), { L16 : List (View.Piece (Elt F) S1x640 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (arg15.view.loc (c : Thread nD τ) ↦[arg15.view.set]{fullShare} arg15.view.writes (Elt F) (harg15.unread x14) L14) ∗ (arg16.view.loc (c : Thread nD τ) ↦[arg16.view.set]{fullShare} arg16.view.writes (Elt F) (harg16.unread x15) L15) ∗ (arg17.view.loc (c : Thread nD τ) ↦[arg17.view.set]{fullShare} arg17.view.writes (Elt F) (harg17.unread x16) L16) ∗ owns (c : Thread nD τ) arg18 fullShare x17 ∗ owns (c : Thread nD τ) arg19 fullShare x18 ∗ owns (c : Thread nD τ) arg20 fullShare x19) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, fun E K => ?run⟩
  case run =>
    simp only [cc0__body_eq_skeleton]; unfold cc0__body_skel
    simp only [k0_part34_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19
    sl_exec (disch := first | sl_exact hc0 | sl_exact hc1 | sl_exact hc2 | sl_exact hc3 | sl_exact hc4 | sl_exact hc5)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexact H14
    isplitl [H15]
    · iexact H15
    isplitl [H16]
    · iexact H16
    isplitl [H17]
    · iexists _; isplitr; · ipureintro; exact harg18.read_unread _
      iexact H17
    isplitl [H18]
    · iexists _; isplitr; · ipureintro; exact harg19.read_unread _
      iexact H18
    iexists _; isplitr; · ipureintro; exact harg20.read_unread _
    iexact H19

end Cert.KernelIdeal.Hand

end
-- ==== Proof.KernelIdealBody.lean ====
module

public import proofs.«01_k».proof.Proof.KernelIdealRunA
public import proofs.«01_k».proof.Proof.KernelIdealRunB
public import proofs.«01_k».proof.Proof.KernelIdealRunC

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The contents of the fifteen windows' staging buffers. -/
abbrev Wins (F : FTy → Type) [FloatOps F] := (w : Fin cfg0.W) → (cfg0.win w).block.Idx → Elt F (cfg0.win w).elt

/-- The contents of the five scratch buffers: the row of features, the accumulated row, the column of the static
    part, the recurrence's state and its weighted sum. -/
abbrev Scr (F : FTy → Type) [FloatOps F] :=
  Vec F S1x20480 .f32 × Vec F S1x640 .f32 × Vec F S128x1 .f32 × Vec F S5x1 .f32 × Vec F S5x1 .f32

/-- The body's run at the first point, on the point's own staging buffers. -/
abbrev atA (c : Dev nD) (t : Fin grid0.N) (ht : t.val = 0) (Y : Wins F) (xs : Scr F) :=
  runA (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) scM0 (Memref.isWhole_whole _) scM1 (Memref.isWhole_whole _) scM2 (Memref.isWhole_whole _) scM3 (Memref.isWhole_whole _) scM4 (Memref.isWhole_whole _) ((cond_iff t).1.mpr (by omega)) ((cond_iff t).2.1.mpr (by omega)) (fun h => absurd ((cond_iff t).2.2.1.mp h) (by omega)) (fun h => absurd ((cond_iff t).2.2.2.1.mp h) (by omega)) ((cond_iff t).2.2.2.2.1.mpr (by omega)) (fun h => absurd ((cond_iff t).2.2.2.2.2.mp h) (by omega)) (Y 0) (Y 1) (Y 2) (Y 3) (Y 4) (Y 5) (Y 6) (Y 7) (Y 8) (Y 9) (Y 10) (Y 11) (Y 12) (Y 13) (Y 14) xs.1 xs.2.1 xs.2.2.1 xs.2.2.2.1 xs.2.2.2.2

/-- What the scratch buffers hold after the body at the first point. -/
def nextA (c : Dev nD) (t : Fin grid0.N) (ht : t.val = 0) (Y : Wins F) (xs : Scr F) (f1 : scM1.view.ty.Contents (Elt F)) (f2 : scM2.view.ty.Contents (Elt F)) (f3 : scM3.view.ty.Contents (Elt F)) (f4 : scM4.view.ty.Contents (Elt F)) : Scr F :=
  (scM0.view.read (Elt F) (scM0.view.writes (Elt F) ((Memref.isWhole_whole (cc0_scratch0)).unread xs.1) (atA c t ht Y xs).1),
   scM1.view.read (Elt F) (scM1.view.writes (Elt F) f1 (atA c t ht Y xs).2.1),
   scM2.view.read (Elt F) (scM2.view.writes (Elt F) f2 (atA c t ht Y xs).2.2.1),
   scM3.view.read (Elt F) (scM3.view.writes (Elt F) f3 (atA c t ht Y xs).2.2.2.1),
   scM4.view.read (Elt F) (scM4.view.writes (Elt F) f4 (atA c t ht Y xs).2.2.2.2.1))

/-- After the first point, the feature row is `nextA`'s component for it. -/
theorem nextA_0 (c : Dev nD) (t : Fin grid0.N) (ht : t.val = 0) (Y : Wins F) (xs : Scr F) (f1 : scM1.view.ty.Contents (Elt F)) (f2 : scM2.view.ty.Contents (Elt F)) (f3 : scM3.view.ty.Contents (Elt F)) (f4 : scM4.view.ty.Contents (Elt F)) :
    scM0.view.read (Elt F) (scM0.view.writes (Elt F) ((Memref.isWhole_whole (cc0_scratch0)).unread xs.1) (atA c t ht Y xs).1) = (nextA c t ht Y xs f1 f2 f3 f4).1 := by
  unfold nextA; with_reducible rfl

/-- After the first point, the accumulator is `nextA`'s component for it. -/
theorem nextA_1 (c : Dev nD) (t : Fin grid0.N) (ht : t.val = 0) (Y : Wins F) (xs : Scr F) (f1 : scM1.view.ty.Contents (Elt F)) (f2 : scM2.view.ty.Contents (Elt F)) (f3 : scM3.view.ty.Contents (Elt F)) (f4 : scM4.view.ty.Contents (Elt F)) :
    scM1.view.read (Elt F) (scM1.view.writes (Elt F) f1 (atA c t ht Y xs).2.1) = (nextA c t ht Y xs f1 f2 f3 f4).2.1 := by
  unfold nextA; with_reducible rfl

/-- After the first point, the static adjacency's column is `nextA`'s component for it. -/
theorem nextA_2 (c : Dev nD) (t : Fin grid0.N) (ht : t.val = 0) (Y : Wins F) (xs : Scr F) (f1 : scM1.view.ty.Contents (Elt F)) (f2 : scM2.view.ty.Contents (Elt F)) (f3 : scM3.view.ty.Contents (Elt F)) (f4 : scM4.view.ty.Contents (Elt F)) :
    scM2.view.read (Elt F) (scM2.view.writes (Elt F) f2 (atA c t ht Y xs).2.2.1) = (nextA c t ht Y xs f1 f2 f3 f4).2.2.1 := by
  unfold nextA; with_reducible rfl

/-- After the first point, the state is `nextA`'s component for it. -/
theorem nextA_3 (c : Dev nD) (t : Fin grid0.N) (ht : t.val = 0) (Y : Wins F) (xs : Scr F) (f1 : scM1.view.ty.Contents (Elt F)) (f2 : scM2.view.ty.Contents (Elt F)) (f3 : scM3.view.ty.Contents (Elt F)) (f4 : scM4.view.ty.Contents (Elt F)) :
    scM3.view.read (Elt F) (scM3.view.writes (Elt F) f3 (atA c t ht Y xs).2.2.2.1) = (nextA c t ht Y xs f1 f2 f3 f4).2.2.2.1 := by
  unfold nextA; with_reducible rfl

/-- After the first point, the weighted states is `nextA`'s component for it. -/
theorem nextA_4 (c : Dev nD) (t : Fin grid0.N) (ht : t.val = 0) (Y : Wins F) (xs : Scr F) (f1 : scM1.view.ty.Contents (Elt F)) (f2 : scM2.view.ty.Contents (Elt F)) (f3 : scM3.view.ty.Contents (Elt F)) (f4 : scM4.view.ty.Contents (Elt F)) :
    scM4.view.read (Elt F) (scM4.view.writes (Elt F) f4 (atA c t ht Y xs).2.2.2.2.1) = (nextA c t ht Y xs f1 f2 f3 f4).2.2.2.2 := by
  unfold nextA; with_reducible rfl

/-- The body's run at a point between, on the point's own staging buffers. -/
abbrev atB (c : Dev nD) (t : Fin grid0.N) (h0 : 0 < t.val) (ht : t.val < 4) (Y : Wins F) (xs : Scr F) :=
  runB (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) scM0 (Memref.isWhole_whole _) scM1 (Memref.isWhole_whole _) scM2 (Memref.isWhole_whole _) scM3 (Memref.isWhole_whole _) scM4 (Memref.isWhole_whole _) (fun h => absurd ((cond_iff t).1.mp h) (by omega)) ((cond_iff t).2.1.mpr (by omega)) (fun h => absurd ((cond_iff t).2.2.1.mp h) (by omega)) ((cond_iff t).2.2.2.1.mpr (by omega)) (fun h => absurd ((cond_iff t).2.2.2.2.1.mp h) (by omega)) (fun h => absurd ((cond_iff t).2.2.2.2.2.mp h) (by omega)) (Y 0) (Y 1) (Y 2) (Y 3) (Y 4) (Y 5) (Y 6) (Y 7) (Y 8) (Y 9) (Y 10) (Y 11) (Y 12) (Y 13) (Y 14) xs.1 xs.2.1 xs.2.2.1 xs.2.2.2.1 xs.2.2.2.2

/-- What the scratch buffers hold after the body at a point between. -/
def nextB (c : Dev nD) (t : Fin grid0.N) (h0 : 0 < t.val) (ht : t.val < 4) (Y : Wins F) (xs : Scr F) : Scr F :=
  (xs.1,
   scM1.view.read (Elt F) (scM1.view.writes (Elt F) ((Memref.isWhole_whole (cc0_scratch1)).unread xs.2.1) (atB c t h0 ht Y xs).1),
   xs.2.2.1,
   scM3.view.read (Elt F) (scM3.view.writes (Elt F) ((Memref.isWhole_whole (cc0_scratch3)).unread xs.2.2.2.1) (atB c t h0 ht Y xs).2.1),
   scM4.view.read (Elt F) (scM4.view.writes (Elt F) ((Memref.isWhole_whole (cc0_scratch4)).unread xs.2.2.2.2) (atB c t h0 ht Y xs).2.2.1))

/-- After a point between, the accumulator is `nextB`'s component for it. -/
theorem nextB_1 (c : Dev nD) (t : Fin grid0.N) (h0 : 0 < t.val) (ht : t.val < 4) (Y : Wins F) (xs : Scr F) :
    scM1.view.read (Elt F) (scM1.view.writes (Elt F) ((Memref.isWhole_whole (cc0_scratch1)).unread xs.2.1) (atB c t h0 ht Y xs).1) = (nextB c t h0 ht Y xs).2.1 := by
  unfold nextB; with_reducible rfl

/-- After a point between, the state is `nextB`'s component for it. -/
theorem nextB_3 (c : Dev nD) (t : Fin grid0.N) (h0 : 0 < t.val) (ht : t.val < 4) (Y : Wins F) (xs : Scr F) :
    scM3.view.read (Elt F) (scM3.view.writes (Elt F) ((Memref.isWhole_whole (cc0_scratch3)).unread xs.2.2.2.1) (atB c t h0 ht Y xs).2.1) = (nextB c t h0 ht Y xs).2.2.2.1 := by
  unfold nextB; with_reducible rfl

/-- After a point between, the weighted states is `nextB`'s component for it. -/
theorem nextB_4 (c : Dev nD) (t : Fin grid0.N) (h0 : 0 < t.val) (ht : t.val < 4) (Y : Wins F) (xs : Scr F) :
    scM4.view.read (Elt F) (scM4.view.writes (Elt F) ((Memref.isWhole_whole (cc0_scratch4)).unread xs.2.2.2.2) (atB c t h0 ht Y xs).2.2.1) = (nextB c t h0 ht Y xs).2.2.2.2 := by
  unfold nextB; with_reducible rfl

/-- The body's run at the last point, on the point's own staging buffers. -/
abbrev atC (c : Dev nD) (t : Fin grid0.N) (ht : t.val = 4) (Y : Wins F) (xs : Scr F) :=
  runC (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) scM0 (Memref.isWhole_whole _) scM1 (Memref.isWhole_whole _) scM2 (Memref.isWhole_whole _) scM3 (Memref.isWhole_whole _) scM4 (Memref.isWhole_whole _) (fun h => absurd ((cond_iff t).1.mp h) (by omega)) (fun h => absurd ((cond_iff t).2.1.mp h) (by omega)) ((cond_iff t).2.2.1.mpr (by omega)) ((cond_iff t).2.2.2.1.mpr (by omega)) (fun h => absurd ((cond_iff t).2.2.2.2.1.mp h) (by omega)) ((cond_iff t).2.2.2.2.2.mpr (by omega)) (Y 0) (Y 1) (Y 2) (Y 3) (Y 4) (Y 5) (Y 6) (Y 7) (Y 8) (Y 9) (Y 10) (Y 11) (Y 12) (Y 13) (Y 14) xs.1 xs.2.1 xs.2.2.1 xs.2.2.2.1 xs.2.2.2.2

/-- What the scratch buffers hold after the body at the last point. -/
def nextC (c : Dev nD) (t : Fin grid0.N) (ht : t.val = 4) (Y : Wins F) (xs : Scr F) : Scr F :=
  (scM0.view.read (Elt F) (scM0.view.writes (Elt F) ((Memref.isWhole_whole (cc0_scratch0)).unread xs.1) (atC c t ht Y xs).2.1),
   scM1.view.read (Elt F) (scM1.view.writes (Elt F) ((Memref.isWhole_whole (cc0_scratch1)).unread xs.2.1) (atC c t ht Y xs).2.2.1),
   xs.2.2.1,
   xs.2.2.2.1,
   xs.2.2.2.2)

/-- After the last point, the feature row is `nextC`'s component for it. -/
theorem nextC_0 (c : Dev nD) (t : Fin grid0.N) (ht : t.val = 4) (Y : Wins F) (xs : Scr F) :
    scM0.view.read (Elt F) (scM0.view.writes (Elt F) ((Memref.isWhole_whole (cc0_scratch0)).unread xs.1) (atC c t ht Y xs).2.1) = (nextC c t ht Y xs).1 := by
  unfold nextC; with_reducible rfl

/-- After the last point, the accumulator is `nextC`'s component for it. -/
theorem nextC_1 (c : Dev nD) (t : Fin grid0.N) (ht : t.val = 4) (Y : Wins F) (xs : Scr F) :
    scM1.view.read (Elt F) (scM1.view.writes (Elt F) ((Memref.isWhole_whole (cc0_scratch1)).unread xs.2.1) (atC c t ht Y xs).2.2.1) = (nextC c t ht Y xs).2.1 := by
  unfold nextC; with_reducible rfl

/-- What the result's staging buffer holds after the body at the last point. -/
def outC (c : Dev nD) (t : Fin grid0.N) (ht : t.val = 4) (Y : Wins F) (xs : Scr F) : Vec F S5x128 .f32 :=
  (win0_14.stage (cfg0.slots t 14)).view.read (Elt F)
    ((win0_14.stage (cfg0.slots t 14)).view.writes (Elt F) ((hstage0_14 ((cfg0.slots t 14).cast nbuf0_14)).unread (Y 14)) (atC c t ht Y xs).1)

/-- The scratch at given contents, with the generator's register at some state. -/
def scratchAt (c : Dev nD) (xs : Scr F) : sProp 𝕄 :=
  iprop((owns (c : Thread nD τ) scM0 fullShare xs.1 ∗ owns (c : Thread nD τ) scM1 fullShare xs.2.1 ∗ owns (c : Thread nD τ) scM2 fullShare xs.2.2.1 ∗ owns (c : Thread nD τ) scM3 fullShare xs.2.2.2.1 ∗ owns (c : Thread nD τ) scM4 fullShare xs.2.2.2.2) ∗ (∃ r, prngReg c r))

/-- The relational data of the run: `Inv c n` is what the scratch meets before point `n`, and `G c` what the result's
    buffer meets after the last point; every input's buffer is left as found. -/
def rdat (Inv : Dev nD → ℕ → Scr F → Prop) (G : Dev nD → Vec F S5x128 .f32 → Prop) (c : Dev nD) :
    RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun Y X => X = Y
    | ⟨7, _⟩ => fun Y X => X = Y
    | ⟨8, _⟩ => fun Y X => X = Y
    | ⟨9, _⟩ => fun Y X => X = Y
    | ⟨10, _⟩ => fun Y X => X = Y
    | ⟨11, _⟩ => fun Y X => X = Y
    | ⟨12, _⟩ => fun Y X => X = Y
    | ⟨13, _⟩ => fun Y X => X = Y
    | ⟨14, _⟩ => fun _ X => t.val = 4 → G c X
  Φ t := iprop(∃ xs, ⌜Inv c t.val xs⌝ ∗ scratchAt c xs)
  q w := Pipeline.shareOf spec0 w
  owed _ := 0

variable (Inv : Dev nD → ℕ → Scr F → Prop) (G : Dev nD → Vec F S5x128 .f32 → Prop)

/-- What a proof about the scratch and the result has to show of the body: it holds before the first point of anything,
    each point's stores carry it on, and the last point's stores make the result. -/
structure Steps : Prop where
  start : ∀ c xs, Inv c 0 xs
  first : ∀ c (t : Fin grid0.N) (ht : t.val = 0) (Y : Wins F) xs f1 f2 f3 f4, (∀ w, (rdat m Inv G c).Finds w t (Y w)) →
    Inv c 1 (nextA c t ht Y xs f1 f2 f3 f4)
  next : ∀ c (t : Fin grid0.N) (h0 : 0 < t.val) (ht : t.val < 4) (Y : Wins F) xs, (∀ w, (rdat m Inv G c).Finds w t (Y w)) →
    Inv c t.val xs → Inv c (t.val + 1) (nextB c t h0 ht Y xs)
  last : ∀ c (t : Fin grid0.N) (ht : t.val = 4) (Y : Wins F) xs, (∀ w, (rdat m Inv G c).Finds w t (Y w)) →
    Inv c 4 xs → Inv c 5 (nextC c t ht Y xs) ∧ G c (outC c t ht Y xs)

/-- What the body is handed at point `t`. -/
def handed (c : Dev nD) (t : Fin cfg0.N) (Y : Wins F) : sProp 𝕄 :=
  iprop((rdat m Inv G c).Φ t.castSucc ∗ (rdat m Inv G c).owesAt () t.castSucc
    ∗ owns (c : Thread nD τ) (win0_0.stage (cfg0.slots t 0)) fullShare (Y 0) ∗ owns (c : Thread nD τ) (win0_1.stage (cfg0.slots t 1)) fullShare (Y 1) ∗ owns (c : Thread nD τ) (win0_2.stage (cfg0.slots t 2)) fullShare (Y 2) ∗ owns (c : Thread nD τ) (win0_3.stage (cfg0.slots t 3)) fullShare (Y 3) ∗ owns (c : Thread nD τ) (win0_4.stage (cfg0.slots t 4)) fullShare (Y 4) ∗ owns (c : Thread nD τ) (win0_5.stage (cfg0.slots t 5)) fullShare (Y 5) ∗ owns (c : Thread nD τ) (win0_6.stage (cfg0.slots t 6)) fullShare (Y 6) ∗ owns (c : Thread nD τ) (win0_7.stage (cfg0.slots t 7)) fullShare (Y 7) ∗ owns (c : Thread nD τ) (win0_8.stage (cfg0.slots t 8)) fullShare (Y 8) ∗ owns (c : Thread nD τ) (win0_9.stage (cfg0.slots t 9)) fullShare (Y 9) ∗ owns (c : Thread nD τ) (win0_10.stage (cfg0.slots t 10)) fullShare (Y 10) ∗ owns (c : Thread nD τ) (win0_11.stage (cfg0.slots t 11)) fullShare (Y 11) ∗ owns (c : Thread nD τ) (win0_12.stage (cfg0.slots t 12)) fullShare (Y 12) ∗ owns (c : Thread nD τ) (win0_13.stage (cfg0.slots t 13)) fullShare (Y 13) ∗ owns (c : Thread nD τ) (win0_14.stage (cfg0.slots t 14)) fullShare (Y 14))

/-- What it hands back. -/
def handedBack (c : Dev nD) (t : Fin cfg0.N) (Y : Wins F) : sProp 𝕄 :=
  iprop((rdat m Inv G c).Φ t.succ ∗ (rdat m Inv G c).owesAt () t.succ
    ∗ (∃ X, ⌜(rdat m Inv G c).after 0 t (Y 0) X⌝ ∗ owns (c : Thread nD τ) (win0_0.stage (cfg0.slots t 0)) fullShare X) ∗ (∃ X, ⌜(rdat m Inv G c).after 1 t (Y 1) X⌝ ∗ owns (c : Thread nD τ) (win0_1.stage (cfg0.slots t 1)) fullShare X) ∗ (∃ X, ⌜(rdat m Inv G c).after 2 t (Y 2) X⌝ ∗ owns (c : Thread nD τ) (win0_2.stage (cfg0.slots t 2)) fullShare X) ∗ (∃ X, ⌜(rdat m Inv G c).after 3 t (Y 3) X⌝ ∗ owns (c : Thread nD τ) (win0_3.stage (cfg0.slots t 3)) fullShare X) ∗ (∃ X, ⌜(rdat m Inv G c).after 4 t (Y 4) X⌝ ∗ owns (c : Thread nD τ) (win0_4.stage (cfg0.slots t 4)) fullShare X) ∗ (∃ X, ⌜(rdat m Inv G c).after 5 t (Y 5) X⌝ ∗ owns (c : Thread nD τ) (win0_5.stage (cfg0.slots t 5)) fullShare X) ∗ (∃ X, ⌜(rdat m Inv G c).after 6 t (Y 6) X⌝ ∗ owns (c : Thread nD τ) (win0_6.stage (cfg0.slots t 6)) fullShare X) ∗ (∃ X, ⌜(rdat m Inv G c).after 7 t (Y 7) X⌝ ∗ owns (c : Thread nD τ) (win0_7.stage (cfg0.slots t 7)) fullShare X) ∗ (∃ X, ⌜(rdat m Inv G c).after 8 t (Y 8) X⌝ ∗ owns (c : Thread nD τ) (win0_8.stage (cfg0.slots t 8)) fullShare X) ∗ (∃ X, ⌜(rdat m Inv G c).after 9 t (Y 9) X⌝ ∗ owns (c : Thread nD τ) (win0_9.stage (cfg0.slots t 9)) fullShare X) ∗ (∃ X, ⌜(rdat m Inv G c).after 10 t (Y 10) X⌝ ∗ owns (c : Thread nD τ) (win0_10.stage (cfg0.slots t 10)) fullShare X) ∗ (∃ X, ⌜(rdat m Inv G c).after 11 t (Y 11) X⌝ ∗ owns (c : Thread nD τ) (win0_11.stage (cfg0.slots t 11)) fullShare X) ∗ (∃ X, ⌜(rdat m Inv G c).after 12 t (Y 12) X⌝ ∗ owns (c : Thread nD τ) (win0_12.stage (cfg0.slots t 12)) fullShare X) ∗ (∃ X, ⌜(rdat m Inv G c).after 13 t (Y 13) X⌝ ∗ owns (c : Thread nD τ) (win0_13.stage (cfg0.slots t 13)) fullShare X) ∗ (∃ X, ⌜(rdat m Inv G c).after 14 t (Y 14) X⌝ ∗ owns (c : Thread nD τ) (win0_14.stage (cfg0.slots t 14)) fullShare X))

set_option maxHeartbeats 8000000 in
/-- The body at the first point, from what it is handed to what it hands back. -/
theorem bodyA (hS : Steps m Inv G) (c : Dev nD) (t : Fin cfg0.N) (ht : t.val = 0) (Y : Wins F)
    (hY : ∀ w, (rdat m Inv G c).Finds w t (Y w)) :
    handed m Inv G c t Y ⊢ wp frame (wpE (defs₀ (F := F)) Variants.none c none) Set.univ (bodyAt0 t) (fun _ => handedBack m Inv G c t Y) := by
  unfold handed handedBack bodyAt0
  rw [show (rdat m Inv G c).owesAt () t.succ = (rdat m Inv G c).owesAt () t.castSucc from rfl]
  rw [show (rdat m Inv G c).Φ t.castSucc = iprop(∃ xs, ⌜Inv c t.val xs⌝ ∗ scratchAt c xs) from rfl]
  rw [show (rdat m Inv G c).Φ t.succ = iprop(∃ xs, ⌜Inv c (t.val + 1) xs⌝ ∗ scratchAt c xs) from rfl]
  unfold scratchAt
  iintro ⟨⟨%xs, %hI, ⟨H15, H16, H17, H18, H19⟩, Hr⟩, Ho, H0, H1, H2, H3, H4, H5, H6, H7, H8, H9, H10, H11, H12, H13, H14⟩
  iapply ((atA c t ht Y xs).2.2.2.2.property Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iintro ⟨H0, H1, H2, H3, H4, H5, H6, H7, H8, H9, H10, H11, H12, H13, H14, H15, ⟨%f1, H16⟩, ⟨%f2, H17⟩, ⟨%f3, H18⟩, ⟨%f4, H19⟩⟩
  isplitl [H15 H16 H17 H18 H19 Hr]
  · iexists (nextA c t ht Y xs f1 f2 f3 f4)
    isplitr
    · ipureintro; exact by rw [ht]; exact hS.first c t ht Y xs f1 f2 f3 f4 hY
    isplitl [H15 H16 H17 H18 H19]
    · isplitl [H15]
      · unfold owns; iexists _; isplitr
        swap; · iexact H15
        ipureintro; exact nextA_0 c t ht Y xs f1 f2 f3 f4
      isplitl [H16]
      · unfold owns; iexists _; isplitr
        swap; · iexact H16
        ipureintro; exact nextA_1 c t ht Y xs f1 f2 f3 f4
      isplitl [H17]
      · unfold owns; iexists _; isplitr
        swap; · iexact H17
        ipureintro; exact nextA_2 c t ht Y xs f1 f2 f3 f4
      isplitl [H18]
      · unfold owns; iexists _; isplitr
        swap; · iexact H18
        ipureintro; exact nextA_3 c t ht Y xs f1 f2 f3 f4
      unfold owns; iexists _; isplitr
      swap; · iexact H19
      ipureintro; exact nextA_4 c t ht Y xs f1 f2 f3 f4
    iexact Hr
  isplitl [Ho]; · iexact Ho
  isplitl [H0]
  · iexists (Y 0); isplitr
    · ipureintro; exact rfl
    iexact H0
  isplitl [H1]
  · iexists (Y 1); isplitr
    · ipureintro; exact rfl
    iexact H1
  isplitl [H2]
  · iexists (Y 2); isplitr
    · ipureintro; exact rfl
    iexact H2
  isplitl [H3]
  · iexists (Y 3); isplitr
    · ipureintro; exact rfl
    iexact H3
  isplitl [H4]
  · iexists (Y 4); isplitr
    · ipureintro; exact rfl
    iexact H4
  isplitl [H5]
  · iexists (Y 5); isplitr
    · ipureintro; exact rfl
    iexact H5
  isplitl [H6]
  · iexists (Y 6); isplitr
    · ipureintro; exact rfl
    iexact H6
  isplitl [H7]
  · iexists (Y 7); isplitr
    · ipureintro; exact rfl
    iexact H7
  isplitl [H8]
  · iexists (Y 8); isplitr
    · ipureintro; exact rfl
    iexact H8
  isplitl [H9]
  · iexists (Y 9); isplitr
    · ipureintro; exact rfl
    iexact H9
  isplitl [H10]
  · iexists (Y 10); isplitr
    · ipureintro; exact rfl
    iexact H10
  isplitl [H11]
  · iexists (Y 11); isplitr
    · ipureintro; exact rfl
    iexact H11
  isplitl [H12]
  · iexists (Y 12); isplitr
    · ipureintro; exact rfl
    iexact H12
  isplitl [H13]
  · iexists (Y 13); isplitr
    · ipureintro; exact rfl
    iexact H13
  iexists (Y 14); isplitr
  · ipureintro; exact fun h => absurd h (by omega)
  iexact H14

set_option maxHeartbeats 8000000 in
/-- The body at a point between, from what it is handed to what it hands back. -/
theorem bodyB (hS : Steps m Inv G) (c : Dev nD) (t : Fin cfg0.N) (h0 : 0 < t.val) (ht : t.val < 4) (Y : Wins F)
    (hY : ∀ w, (rdat m Inv G c).Finds w t (Y w)) :
    handed m Inv G c t Y ⊢ wp frame (wpE (defs₀ (F := F)) Variants.none c none) Set.univ (bodyAt0 t) (fun _ => handedBack m Inv G c t Y) := by
  unfold handed handedBack bodyAt0
  rw [show (rdat m Inv G c).owesAt () t.succ = (rdat m Inv G c).owesAt () t.castSucc from rfl]
  rw [show (rdat m Inv G c).Φ t.castSucc = iprop(∃ xs, ⌜Inv c t.val xs⌝ ∗ scratchAt c xs) from rfl]
  rw [show (rdat m Inv G c).Φ t.succ = iprop(∃ xs, ⌜Inv c (t.val + 1) xs⌝ ∗ scratchAt c xs) from rfl]
  unfold scratchAt
  iintro ⟨⟨%xs, %hI, ⟨H15, H16, H17, H18, H19⟩, Hr⟩, Ho, H0, H1, H2, H3, H4, H5, H6, H7, H8, H9, H10, H11, H12, H13, H14⟩
  iapply ((atB c t h0 ht Y xs).2.2.property Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iintro ⟨H0, H1, H2, H3, H4, H5, H6, H7, H8, H9, H10, H11, H12, H13, H14, H15, H16, H17, H18, H19⟩
  isplitl [H15 H16 H17 H18 H19 Hr]
  · iexists (nextB c t h0 ht Y xs)
    isplitr
    · ipureintro; exact hS.next c t h0 ht Y xs hY hI
    isplitl [H15 H16 H17 H18 H19]
    · isplitl [H15]
      · iexact H15
      isplitl [H16]
      · unfold owns; iexists _; isplitr
        swap; · iexact H16
        ipureintro; exact nextB_1 c t h0 ht Y xs
      isplitl [H17]
      · iexact H17
      isplitl [H18]
      · unfold owns; iexists _; isplitr
        swap; · iexact H18
        ipureintro; exact nextB_3 c t h0 ht Y xs
      unfold owns; iexists _; isplitr
      swap; · iexact H19
      ipureintro; exact nextB_4 c t h0 ht Y xs
    iexact Hr
  isplitl [Ho]; · iexact Ho
  isplitl [H0]
  · iexists (Y 0); isplitr
    · ipureintro; exact rfl
    iexact H0
  isplitl [H1]
  · iexists (Y 1); isplitr
    · ipureintro; exact rfl
    iexact H1
  isplitl [H2]
  · iexists (Y 2); isplitr
    · ipureintro; exact rfl
    iexact H2
  isplitl [H3]
  · iexists (Y 3); isplitr
    · ipureintro; exact rfl
    iexact H3
  isplitl [H4]
  · iexists (Y 4); isplitr
    · ipureintro; exact rfl
    iexact H4
  isplitl [H5]
  · iexists (Y 5); isplitr
    · ipureintro; exact rfl
    iexact H5
  isplitl [H6]
  · iexists (Y 6); isplitr
    · ipureintro; exact rfl
    iexact H6
  isplitl [H7]
  · iexists (Y 7); isplitr
    · ipureintro; exact rfl
    iexact H7
  isplitl [H8]
  · iexists (Y 8); isplitr
    · ipureintro; exact rfl
    iexact H8
  isplitl [H9]
  · iexists (Y 9); isplitr
    · ipureintro; exact rfl
    iexact H9
  isplitl [H10]
  · iexists (Y 10); isplitr
    · ipureintro; exact rfl
    iexact H10
  isplitl [H11]
  · iexists (Y 11); isplitr
    · ipureintro; exact rfl
    iexact H11
  isplitl [H12]
  · iexists (Y 12); isplitr
    · ipureintro; exact rfl
    iexact H12
  isplitl [H13]
  · iexists (Y 13); isplitr
    · ipureintro; exact rfl
    iexact H13
  iexists (Y 14); isplitr
  · ipureintro; exact fun h => absurd h (by omega)
  iexact H14

set_option maxHeartbeats 8000000 in
/-- The body at the last point, from what it is handed to what it hands back. -/
theorem bodyC (hS : Steps m Inv G) (c : Dev nD) (t : Fin cfg0.N) (ht : t.val = 4) (Y : Wins F)
    (hY : ∀ w, (rdat m Inv G c).Finds w t (Y w)) :
    handed m Inv G c t Y ⊢ wp frame (wpE (defs₀ (F := F)) Variants.none c none) Set.univ (bodyAt0 t) (fun _ => handedBack m Inv G c t Y) := by
  unfold handed handedBack bodyAt0
  rw [show (rdat m Inv G c).owesAt () t.succ = (rdat m Inv G c).owesAt () t.castSucc from rfl]
  rw [show (rdat m Inv G c).Φ t.castSucc = iprop(∃ xs, ⌜Inv c t.val xs⌝ ∗ scratchAt c xs) from rfl]
  rw [show (rdat m Inv G c).Φ t.succ = iprop(∃ xs, ⌜Inv c (t.val + 1) xs⌝ ∗ scratchAt c xs) from rfl]
  unfold scratchAt
  iintro ⟨⟨%xs, %hI, ⟨H15, H16, H17, H18, H19⟩, Hr⟩, Ho, H0, H1, H2, H3, H4, H5, H6, H7, H8, H9, H10, H11, H12, H13, H14⟩
  iapply ((atC c t ht Y xs).2.2.property Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iintro ⟨H0, H1, H2, H3, H4, H5, H6, H7, H8, H9, H10, H11, H12, H13, H14, H15, H16, H17, H18, H19⟩
  isplitl [H15 H16 H17 H18 H19 Hr]
  · iexists (nextC c t ht Y xs)
    isplitr
    · ipureintro; exact by rw [ht]; exact (hS.last c t ht Y xs hY (by rw [← ht]; exact hI)).1
    isplitl [H15 H16 H17 H18 H19]
    · isplitl [H15]
      · unfold owns; iexists _; isplitr
        swap; · iexact H15
        ipureintro; exact nextC_0 c t ht Y xs
      isplitl [H16]
      · unfold owns; iexists _; isplitr
        swap; · iexact H16
        ipureintro; exact nextC_1 c t ht Y xs
      isplitl [H17]
      · iexact H17
      isplitl [H18]
      · iexact H18
      iexact H19
    iexact Hr
  isplitl [Ho]; · iexact Ho
  isplitl [H0]
  · iexists (Y 0); isplitr
    · ipureintro; exact rfl
    iexact H0
  isplitl [H1]
  · iexists (Y 1); isplitr
    · ipureintro; exact rfl
    iexact H1
  isplitl [H2]
  · iexists (Y 2); isplitr
    · ipureintro; exact rfl
    iexact H2
  isplitl [H3]
  · iexists (Y 3); isplitr
    · ipureintro; exact rfl
    iexact H3
  isplitl [H4]
  · iexists (Y 4); isplitr
    · ipureintro; exact rfl
    iexact H4
  isplitl [H5]
  · iexists (Y 5); isplitr
    · ipureintro; exact rfl
    iexact H5
  isplitl [H6]
  · iexists (Y 6); isplitr
    · ipureintro; exact rfl
    iexact H6
  isplitl [H7]
  · iexists (Y 7); isplitr
    · ipureintro; exact rfl
    iexact H7
  isplitl [H8]
  · iexists (Y 8); isplitr
    · ipureintro; exact rfl
    iexact H8
  isplitl [H9]
  · iexists (Y 9); isplitr
    · ipureintro; exact rfl
    iexact H9
  isplitl [H10]
  · iexists (Y 10); isplitr
    · ipureintro; exact rfl
    iexact H10
  isplitl [H11]
  · iexists (Y 11); isplitr
    · ipureintro; exact rfl
    iexact H11
  isplitl [H12]
  · iexists (Y 12); isplitr
    · ipureintro; exact rfl
    iexact H12
  isplitl [H13]
  · iexists (Y 13); isplitr
    · ipureintro; exact rfl
    iexact H13
  iexists (outC c t ht Y xs); isplitr
  · ipureintro; exact fun _ => (hS.last c t ht Y xs hY (by rw [← ht]; exact hI)).2
  unfold owns; iexists _; isplitr
  swap; · iexact H14
  ipureintro; rfl

/-- The body table's row at point `t` is the printed body on the point's staging buffers. -/
theorem row_eq (t : Fin cfg0.N) : defs₀ (F := F) .tc cfg0.body (cfg0.bodyArgs t (cfg0.slots t)) = bodyAt0 t := by
  unfold defs₀; rw [Defs.onTc_tc]

/-- The body meets the run's data at every point. -/
theorem body_all (hS : Steps m Inv G) (c : Dev nD) :
    (rdat m Inv G c).BodyObligation (defs₀ (F := F)) Variants.none () Set.univ := fun t Y hY => by
  rw [bigSep_W0, bigSep_W0, row_eq]
  have hN : t.val < 5 := lt_of_lt_of_eq t.isLt (show cfg0.N = 5 from N_0)
  refine triple_restated (P := handed m Inv G c t Y) (Q := fun _ => handedBack m Inv G c t Y) ?_ rfl .rfl fun _ => .rfl
  by_cases h0 : t.val = 0
  · exact bodyA m Inv G hS c t h0 Y hY
  · by_cases h4 : t.val = 4
    · exact bodyC m Inv G hS c t h4 Y hY
    · exact bodyB m Inv G hS c t (by omega) (by omega) Y hY

/-- The launch's scratch meets the data before the first point. -/
theorem scratch_in (hS : Steps m Inv G) (c : Dev nD) : Pipeline.ΦA spec0 c ⊢ (rdat m Inv G c).Φ 0 := by
  rw [show (rdat m Inv G c).Φ 0 = iprop(∃ xs, ⌜Inv c 0 xs⌝ ∗ scratchAt c xs) from rfl, scratch_eq]
  unfold scratchAt
  iintro ⟨⟨⟨%x0, H0⟩, ⟨%x1, H1⟩, ⟨%x2, H2⟩, ⟨%x3, H3⟩, ⟨%x4, H4⟩⟩, Hr⟩
  iexists (x0, x1, x2, x3, x4)
  isplitr
  · ipureintro; exact hS.start c _
  isplitl [H0 H1 H2 H3 H4]
  · isplitl [H0]; · iexact H0
    isplitl [H1]; · iexact H1
    isplitl [H2]; · iexact H2
    isplitl [H3]; · iexact H3
    iexact H4
  iexact Hr

/-- After the last point the scratch is given back. -/
theorem scratch_out (c : Dev nD) : (rdat m Inv G c).Φ (Fin.last cfg0.N) ⊢ Pipeline.ΦA spec0 c := by
  rw [show (rdat m Inv G c).Φ (Fin.last cfg0.N) = iprop(∃ xs, ⌜Inv c (Fin.last cfg0.N).val xs⌝ ∗ scratchAt c xs) from rfl, scratch_eq]
  unfold scratchAt
  iintro ⟨%xs, %hI, ⟨H0, H1, H2, H3, H4⟩, Hr⟩
  isplitl [H0 H1 H2 H3 H4]
  · isplitl [H0]; · iexists _; iexact H0
    isplitl [H1]; · iexists _; iexact H1
    isplitl [H2]; · iexists _; iexact H2
    isplitl [H3]; · iexists _; iexact H3
    iexists _; iexact H4
  iexact Hr

set_option backward.isDefEq.respectTransparency.types false in
/-- The run: every execution ends with each array at contents the data allow, every other buffer as the kernel found
    it, and every semaphore at zero. -/
theorem run_all (hS : Steps m Inv G) : θ_run defs (onTc (τ := τ) (main (F := F))) (s₀ m ρ)
    (fun r => RDat.FramePost cfg0 (rdat m Inv G) (V m) r ∧ r.2.sem = fun _ => 0) :=
  Pipeline.RDat.θ_run_frame_track_shared (Q' := _) cfgs (0 : Fin 1) launch₀0 defs₀ Variants.none (rdat m Inv G) m ρ main
    (hbody := fun c => body_all m Inv G hS c) (hq := fun _ _ _ => rfl)
    (howed := fun _ _ => rfl) (V := V m) (hmain := main_split m Variants.none) (hA := fun _ _ => rfl)
    (hin := scratch_in m Inv G hS) (hout := scratch_out m Inv G)

/-- At the run's end every argument array holds what it held at launch. -/
theorem args_kept (r : PUnit × MemSt nD τ sig (Elt F)) (h : RDat.FramePost cfg0 (rdat m Inv G) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      :=
  ⟨(h.arr_in c 0 rfl).trans (V_arg m main_arg0 (by decide) c),
    (h.arr_in c 2 rfl).trans (V_arg m main_arg1 (by decide) c),
    (h.arr_in c 3 rfl).trans (V_arg m main_arg2 (by decide) c),
    (h.arr_in c 4 rfl).trans (V_arg m main_arg3 (by decide) c),
    ((h c).2 main_arg4 (Pipeline.mem_restRefs_of main_arg4 (by decide) (by decide))).trans (V_arg m main_arg4 (by decide) c),
    ((h c).2 main_arg5 (Pipeline.mem_restRefs_of main_arg5 (by decide) (by decide))).trans (V_arg m main_arg5 (by decide) c),
    ((h c).2 main_arg6 (Pipeline.mem_restRefs_of main_arg6 (by decide) (by decide))).trans (V_arg m main_arg6 (by decide) c),
    ((h c).2 main_arg7 (Pipeline.mem_restRefs_of main_arg7 (by decide) (by decide))).trans (V_arg m main_arg7 (by decide) c),
    ((h c).2 main_arg8 (Pipeline.mem_restRefs_of main_arg8 (by decide) (by decide))).trans (V_arg m main_arg8 (by decide) c),
    ((h c).2 main_arg9 (Pipeline.mem_restRefs_of main_arg9 (by decide) (by decide))).trans (V_arg m main_arg9 (by decide) c),
    (h.arr_in c 5 rfl).trans (V_arg m main_arg10 (by decide) c),
    (h.arr_in c 6 rfl).trans (V_arg m main_arg11 (by decide) c),
    (h.arr_in c 7 rfl).trans (V_arg m main_arg12 (by decide) c),
    (h.arr_in c 8 rfl).trans (V_arg m main_arg13 (by decide) c),
    (h.arr_in c 9 rfl).trans (V_arg m main_arg14 (by decide) c),
    (h.arr_in c 13 rfl).trans (V_arg m main_arg15 (by decide) c)⟩

/-- Saying nothing of the scratch and of the result is carried by every point. -/
theorem steps_true : Steps m (fun _ _ _ => True) (fun _ _ => True) :=
  ⟨fun _ _ => trivial, fun _ _ _ _ _ _ _ _ _ _ => trivial, fun _ _ _ _ _ _ _ _ => trivial, fun _ _ _ _ _ _ _ => ⟨trivial, trivial⟩⟩

/-- The frame: every run ends with the arguments unchanged and every semaphore at zero. -/
theorem frame : θ_run defs (onTc (τ := τ) (main (F := F))) ⟨m, fun _ => 0, ρ⟩ (fun r => (∀ c : Dev nD,
     r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
     )
      ∧ r.2.sem = fun _ => 0) :=
  (θ_run defs _ _).mono (fun r h => ⟨fun c => args_kept m _ _ r h.1 c, h.2⟩) (run_all m ρ _ _ (steps_true m))

end Cert.KernelIdeal.Hand

end
-- ==== Proof.RefFrame.lean ====
module

public import proofs.«01_k».proof.Proof.Gen.ReferenceIdeal.Run
public import Idealize.ShloMosaic.Lib.Quiescent
public import Idealize.ShloMosaic.Lib.Claim

@[expose] public section

set_option maxRecDepth 8192

noncomputable section

namespace Cert.ReferenceIdeal.Hand

open Idealize.ShloMosaic Idealize.ShloMosaic.TcCoe Idealize.SL.Sem Idealize.ShloMosaic.StableHlo
open Cert.ReferenceIdeal Cert.ReferenceIdeal.Gen Cert.ReferenceIdeal.Value

variable {F : FTy → Type} [FloatOps F]
variable (m : (ℓ : Loc nD τ sig) → Buf (Elt F) ℓ) (ρ : Dev nD → PrngReg)

/-! # The reference's run: what it leaves alone -/

/-- The arguments. -/
abbrev argRefs : List (Ref sig .tc) := [main_arg0, main_arg1, main_arg2, main_arg3, main_arg4, main_arg5, main_arg6, main_arg7, main_arg8, main_arg9, main_arg10, main_arg11, main_arg12, main_arg13, main_arg14, main_arg15]
/-- The arguments and the frequency part, which the loop leaves alone. -/
abbrev keptRefs : List (Ref sig .tc) := main_v6 :: argRefs

/-- The references that the first stretch after the loop writes. -/
abbrev post7_W : List (Ref sig .tc) := [main_cst_2, main_v16, main_cst_3, main_v17, main_v18, main_v19, main_v20, main_cst_4, main_v21, main_v22, main_cst_5, main_v23, main_v24, main_v25, main_v26, main_v27, main_v28, main_v29, main_cst_6, main_v30, main_v31, main_cst_7, main_v32, main_v33, main_v34, main_v35, main_v36, main_v37, main_v38, main_v39, main_v40, main_v41, main_v42]
/-- The references that the last cut at zero writes. -/
abbrev post8_W : List (Ref sig .tc) := [main_call5_cst, main_call5_v0, main_v43]
/-- The reference that the last change of shape writes. -/
abbrev post9_W : List (Ref sig .tc) := [main_v44]
/-- The first stretch after the loop writes those references only. -/
theorem post7_writes : (hostOps0_7 : List (HloOp τ sig (Elt F))).Forall fun op => op.writes ⊆ (post7_W.map (Proc.devRef (τ := τ) .tc)).toFinset :=
  StableHlo.forall_writes_sub_of_map rfl
/-- The second stretch after the loop writes those references only. -/
theorem post8_writes : (hostOps0_8 : List (HloOp τ sig (Elt F))).Forall fun op => op.writes ⊆ (post8_W.map (Proc.devRef (τ := τ) .tc)).toFinset :=
  StableHlo.forall_writes_sub_of_map rfl
/-- The third stretch after the loop writes that reference only. -/
theorem post9_writes : (hostOps0_9 : List (HloOp τ sig (Elt F))).Forall fun op => op.writes ⊆ (post9_W.map (Proc.devRef (τ := τ) .tc)).toFinset :=
  StableHlo.forall_writes_sub_of_map rfl

/-- No argument is written before the loop. -/
theorem pre_keeps (V : Valuation τ sig (Elt F)) (j : Ref sig .tc) (hj : j ∈ argRefs) : afterL preI V (Proc.devRef .tc j) = V (Proc.devRef .tc j) := by
  simp only [preI, afterL_cons, afterL_nil]
  rw [after_of_writes_sub hostOps0_6 _ hostOps0_6_writes ((by decide +kernel : ∀ j ∈ argRefs, j ∉ hostOps0_6_W) j hj),
    after_of_writes_sub hostOps0_5 _ hostOps0_5_writes ((by decide +kernel : ∀ j ∈ argRefs, j ∉ hostOps0_5_W) j hj),
    after_of_writes_sub hostOps0_4 _ hostOps0_4_writes ((by decide +kernel : ∀ j ∈ argRefs, j ∉ hostOps0_4_W) j hj),
    after_of_writes_sub hostOps0_3 _ hostOps0_3_writes ((by decide +kernel : ∀ j ∈ argRefs, j ∉ hostOps0_3_W) j hj),
    after_of_writes_sub hostOps0_2 _ hostOps0_2_writes ((by decide +kernel : ∀ j ∈ argRefs, j ∉ hostOps0_2_W) j hj),
    after_of_writes_sub hostOps0_1 _ hostOps0_1_writes ((by decide +kernel : ∀ j ∈ argRefs, j ∉ hostOps0_1_W) j hj),
    after_of_writes_sub hostOps0 _ hostOps0_writes ((by decide +kernel : ∀ j ∈ argRefs, j ∉ hostOps0_W) j hj)]

/-- Nor, with the frequency part, by the loop's condition or body, -/
theorem cond_keeps_kept (V : Valuation τ sig (Elt F)) (j : Ref sig .tc) (hj : j ∈ keptRefs) : after condOps V (Proc.devRef .tc j) = V (Proc.devRef .tc j) :=
  after_of_writes_sub condOps V condOps_writes ((by decide +kernel : ∀ j ∈ keptRefs, j ∉ condOps_W) j hj)
/-- nor by the loop's body, -/
theorem body_keeps (V : Valuation τ sig (Elt F)) (j : Ref sig .tc) (hj : j ∈ keptRefs) : afterL bodyI V (Proc.devRef .tc j) = V (Proc.devRef .tc j) := by
  simp only [bodyI, afterL_cons, afterL_nil]
  rw [after_of_writes_sub while0Ops0_3 _ while0Ops0_3_writes ((by decide +kernel : ∀ j ∈ keptRefs, j ∉ while0Ops0_3_W) j hj),
    after_of_writes_sub while0Ops0_2 _ while0Ops0_2_writes ((by decide +kernel : ∀ j ∈ keptRefs, j ∉ while0Ops0_2_W) j hj),
    after_of_writes_sub while0Ops0_1 _ while0Ops0_1_writes ((by decide +kernel : ∀ j ∈ keptRefs, j ∉ while0Ops0_1_W) j hj),
    after_of_writes_sub while0Ops0 _ while0Ops0_writes ((by decide +kernel : ∀ j ∈ keptRefs, j ∉ while0Ops0_W) j hj)]
/-- so that any number of trips leaves each as it was at the loop's entry. -/
theorem trips_keep (c : Dev nD) (j : Ref sig .tc) (hj : j ∈ keptRefs) : ∀ k, atK m k c (Proc.devRef .tc j) = entryContents preI m c (Proc.devRef .tc j)
  | 0 => rfl
  | k + 1 => by
    rw [show atK m (k + 1) c = afterL bodyI (after condOps (atK m k c)) from rfl, body_keeps _ j hj, cond_keeps_kept _ j hj, trips_keep c j hj k]

/-- nor after the loop. -/
theorem post_keeps (V : Valuation τ sig (Elt F)) (j : Ref sig .tc) (hj : j ∈ argRefs) : afterL postI V (Proc.devRef .tc j) = V (Proc.devRef .tc j) := by
  simp only [postI, afterL_cons, afterL_nil]
  rw [after_of_writes_sub hostOps0_9 _ post9_writes ((by decide +kernel : ∀ j ∈ argRefs, j ∉ post9_W) j hj),
    after_of_writes_sub hostOps0_8 _ post8_writes ((by decide +kernel : ∀ j ∈ argRefs, j ∉ post8_W) j hj),
    after_of_writes_sub hostOps0_7 _ post7_writes ((by decide +kernel : ∀ j ∈ argRefs, j ∉ post7_W) j hj)]

/-- Every argument ends as it began. -/
theorem final_arg (c : Dev nD) (j : Ref sig .tc) (hj : j ∈ argRefs) :
    finalContents condOps preI bodyI postI 128 m c (Proc.devRef .tc j) = m ((c.tc : Thread nD τ).loc j) := by
  rw [finalContents, post_keeps _ j hj, cond_keeps_kept _ j (List.mem_cons_of_mem _ hj)]
  exact (trips_keep m c j (List.mem_cons_of_mem _ hj) 128).trans (pre_keeps _ j hj)

/-- No argument is a temporary. -/
theorem arg_unscoped : ∀ j ∈ argRefs, (Proc.devRef .tc j : DevRef τ sig).isScoped = false := by decide +kernel

/-- The reference runs, its arguments end unchanged and every counter at zero. -/
theorem kept : θ_run (defs (F := F)) (onTc (τ := τ) (main (F := F))) ⟨m, fun _ => 0, ρ⟩
    (fun r => (∀ (c : Dev nD), ∀ j ∈ argRefs, r.2.mem ((c.tc : Thread nD τ).loc j) = m ((c.tc : Thread nD τ).loc j)) ∧ r.2.sem = fun _ => 0) :=
  (θ_run _ _ _).mono (fun r hr => ⟨fun c j hj => (hr c j (arg_unscoped j hj)).trans (final_arg m c j hj), sem_eq_zero_of_no_sems rfl _⟩) (run_fold m ρ)

/-- The frame: every argument ends as it began, every counter at zero. -/
theorem frame : θ_run (defs (F := F)) (onTc (τ := τ) (main (F := F))) ⟨m, fun _ => 0, ρ⟩ (fun r => (∀ c : Dev nD,
     r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  (θ_run _ _ _).mono (fun r hr => ⟨fun c => ⟨hr.1 c main_arg0 (by decide), hr.1 c main_arg1 (by decide), hr.1 c main_arg2 (by decide), hr.1 c main_arg3 (by decide), hr.1 c main_arg4 (by decide), hr.1 c main_arg5 (by decide), hr.1 c main_arg6 (by decide), hr.1 c main_arg7 (by decide), hr.1 c main_arg8 (by decide), hr.1 c main_arg9 (by decide), hr.1 c main_arg10 (by decide), hr.1 c main_arg11 (by decide), hr.1 c main_arg12 (by decide), hr.1 c main_arg13 (by decide), hr.1 c main_arg14 (by decide), hr.1 c main_arg15 (by decide)⟩, hr.2⟩) (kept m ρ)

end Cert.ReferenceIdeal.Hand

end
-- ==== Proof.Spec.lean ====
module

public import Idealize.ShloMosaic.Lib.Pointwise
public import Idealize.ShloMosaic.Lib.IdealHost

@[expose] public section

noncomputable section

namespace Cert.Spec

open Idealize.ShloMosaic

/-! # What is computed, in extended reals

The problem's mathematics over the sixteen argument arrays, written once; the kernel's run and the reference's run are
each shown to end with `out`. -/

/-- The sixteen arguments. -/
structure Args where
  x : (⟨2, ![5, 128]⟩ : Shape).Idx → EReal
  fft : (⟨2, ![5, 128]⟩ : Shape).Idx → EReal
  Wfuse : (⟨2, ![256, 128]⟩ : Shape).Idx → EReal
  bfuse : (⟨1, ![128]⟩ : Shape).Idx → EReal
  Wtime : (⟨2, ![5, 5]⟩ : Shape).Idx → EReal
  btime : (⟨1, ![5]⟩ : Shape).Idx → EReal
  Wih : (⟨2, ![15, 5]⟩ : Shape).Idx → EReal
  Whh : (⟨2, ![15, 5]⟩ : Shape).Idx → EReal
  bih : (⟨1, ![15]⟩ : Shape).Idx → EReal
  bhh : (⟨1, ![15]⟩ : Shape).Idx → EReal
  Wtadj : (⟨2, ![5, 5]⟩ : Shape).Idx → EReal
  Wt : (⟨2, ![128, 16]⟩ : Shape).Idx → EReal
  Wsadj : (⟨2, ![128, 128]⟩ : Shape).Idx → EReal
  Ws : (⟨2, ![5, 16]⟩ : Shape).Idx → EReal
  Wfcn : (⟨2, ![18537, 640]⟩ : Shape).Idx → EReal
  bfcn : (⟨1, ![640]⟩ : Shape).Idx → EReal

variable (a : Args)

/-- Row `k` of gate `g` of the recurrence's fifteen rows. -/
def gate (g : Fin 3) (k : Fin 5) : Fin 15 := ⟨5 * g.val + k.val, by omega⟩

/-- The time index `t`, read modulo the 128 features. -/
def ft (t : ℕ) : Fin 128 := ⟨t % 128, Nat.mod_lt _ (by norm_num)⟩

/-- The recurrence's input at time `t`. -/
def tim (t : ℕ) (k : Fin 5) : EReal := max ((∑ m : Fin 5, a.x (ix2 m (ft t)) * a.Wtime (ix2 m k)) + a.btime (ix1 k)) 0

/-- The input's part of a gate at time `t`. -/
def gi (t : ℕ) (g : Fin 3) (k : Fin 5) : EReal :=
  (∑ m : Fin 5, a.Wih (ix2 (gate g k) m) * tim a t m) + a.bih (ix1 (gate g k))

/-- The state's part of a gate. -/
def gh (h : Fin 5 → EReal) (g : Fin 3) (k : Fin 5) : EReal :=
  (∑ m : Fin 5, a.Whh (ix2 (gate g k) m) * h m) + a.bhh (ix1 (gate g k))

/-- The update gate. -/
def zg (t : ℕ) (h : Fin 5 → EReal) (k : Fin 5) : EReal := Ideal.logistic (gi a t 1 k + gh a h 1 k)

/-- The candidate state. -/
def ng (t : ℕ) (h : Fin 5 → EReal) (k : Fin 5) : EReal :=
  Ideal.tanh (gi a t 2 k + Ideal.logistic (gi a t 0 k + gh a h 0 k) * gh a h 2 k)

/-- One step of the recurrence. -/
def step (t : ℕ) (h : Fin 5 → EReal) (k : Fin 5) : EReal := (1 - zg a t h k) * ng a t h k + zg a t h k * h k

/-- The state after `n` steps. -/
def hid : ℕ → Fin 5 → EReal
  | 0 => fun _ => 0
  | n + 1 => step a n (hid n)

/-- The static adjacency's row. -/
def vs (v : Fin 128) : EReal := Ideal.logistic (∑ k : Fin 128, a.Wsadj (ix2 k v))

/-- The temporal adjacency's row. -/
def vt (v : Fin 5) : EReal := Ideal.logistic (∑ k : Fin 5, a.Wtadj (ix2 k v))

/-- The states weighted by the static adjacency, over the first `n` times. -/
def sv (n : ℕ) (w : Fin 5) : EReal := ∑ t ∈ Finset.range n, vs a (ft t) * hid a (t + 1) w

/-- The frequency part. -/
def freq (w : Fin 5) (f : Fin 128) : EReal :=
  max (((∑ k : Fin 128, a.x (ix2 w k) * a.Wfuse (ix2 ⟨k.val, by omega⟩ f))
    + ∑ k : Fin 128, a.fft (ix2 w k) * a.Wfuse (ix2 ⟨128 + k.val, by omega⟩ f)) + a.bfuse (ix1 f)) 0

/-- The temporal features of a row; all five rows are equal. -/
def tf (c : Fin 16) : EReal := ∑ w : Fin 5, vt a w * ∑ f : Fin 128, freq a w f * a.Wt (ix2 f c)

/-- The spatial features of a row, the states weighted first. -/
def sf (c : Fin 16) : EReal := ∑ w : Fin 5, sv a 128 w * a.Ws (ix2 w c)

/-- The spatial features of a row, as the reference orders the two products. -/
def sfR (c : Fin 16) : EReal := ∑ t : Fin 128, vs a t * ∑ w : Fin 5, hid a (t.val + 1) w * a.Ws (ix2 w c)

/-- The row of features, given what its second part holds. -/
def cat (s : Fin 16 → EReal) (n : ℕ) : EReal :=
  if n < 80 then tf a ⟨n % 16, by omega⟩
  else if n < 2128 then s ⟨(n - 80) % 16, by omega⟩
  else if n < 2153 then vt a ⟨(n - 2128) % 5, by omega⟩
  else if n < 18537 then vs a (ft (n - 2153))
  else 0

/-- The last product's matrix, by natural row, zero past its end. -/
def wf (n : ℕ) (o : Fin 640) : EReal := if h : n < 18537 then a.Wfcn (ix2 ⟨n, h⟩ o) else 0

/-- The result before the bias, of the row of features `cat`. -/
def lin (s : Fin 16 → EReal) (o : Fin 640) : EReal := ∑ n ∈ Finset.range 18537, cat a s n * wf a n o

/-- The result. -/
def out (s : Fin 16 → EReal) (w : Fin 5) (f : Fin 128) : EReal :=
  max (lin a s ⟨128 * w.val + f.val, by omega⟩ + a.bfcn (ix1 ⟨128 * w.val + f.val, by omega⟩)) 0

/-! ## The logistic as a hyperbolic tangent -/

/-- The f32 pattern `0x3F000000` is one half. -/
theorem ofBits_half : Ideal.ofBits .f32 0x3F000000#32 = ((1 / 2 : ℝ) : EReal) := by
  simp [Ideal.ofBits, Ideal.ieee, -EReal.coe_mul]; norm_num

/-- `0.5 · tanh (0.5 · x) + 0.5` is the logistic of `x`, at every extended real. -/
theorem half_tanh (x : EReal) : Ideal.ofBits .f32 0x3F000000#32 * Ideal.tanh (Ideal.ofBits .f32 0x3F000000#32 * x)
    + Ideal.ofBits .f32 0x3F000000#32 = Ideal.logistic x := by
  rw [ofBits_half]
  induction x with
  | bot =>
    rw [EReal.coe_mul_bot_of_pos (by norm_num), Ideal.tanh_bot, Ideal.logistic_bot]
    rw [show (-1 : EReal) = ((-1 : ℝ) : EReal) by rw [EReal.coe_neg, EReal.coe_one], ← EReal.coe_mul, ← EReal.coe_add]
    norm_num
  | top =>
    rw [EReal.coe_mul_top_of_pos (by norm_num), Ideal.tanh_top, Ideal.logistic_top]
    rw [show (1 : EReal) = ((1 : ℝ) : EReal) by norm_cast, ← EReal.coe_mul, ← EReal.coe_add]
    norm_num
  | coe r =>
    rw [← EReal.coe_mul, Ideal.tanh_coe, Ideal.logistic_coe, ← EReal.coe_mul, ← EReal.coe_add]
    congr 1
    have h1 : Real.exp r = Real.exp (1 / 2 * r) * Real.exp (1 / 2 * r) := by rw [← Real.exp_add]; congr 1; ring
    have hp := Real.exp_pos (1 / 2 * r)
    rw [Real.tanh_eq_sinh_div_cosh, Real.sinh_eq, Real.cosh_eq, Real.exp_neg, Real.exp_neg, h1]
    field_simp
    ring

/-! ## The states are real -/

/-- The logistic of any extended real is a real. -/
theorem logistic_real (x : EReal) : ∃ r : ℝ, Ideal.logistic x = (r : EReal) := by
  induction x with
  | bot => exact ⟨0, Ideal.logistic_bot⟩
  | top => exact ⟨1, Ideal.logistic_top⟩
  | coe r => exact ⟨_, Ideal.logistic_coe r⟩

/-- The hyperbolic tangent of any extended real is a real. -/
theorem tanh_real (x : EReal) : ∃ r : ℝ, Ideal.tanh x = (r : EReal) := by
  induction x with
  | bot => exact ⟨-1, by rw [Ideal.tanh_bot, EReal.coe_neg, EReal.coe_one]⟩
  | top => exact ⟨1, Ideal.tanh_top⟩
  | coe r => exact ⟨_, Ideal.tanh_coe r⟩

/-- Every state of the recurrence is a real number, whatever the arguments. -/
theorem hid_real (n : ℕ) (k : Fin 5) : ∃ r : ℝ, hid a n k = (r : EReal) := by
  induction n generalizing k with
  | zero => exact ⟨0, rfl⟩
  | succ n ih =>
    obtain ⟨z, hz⟩ := logistic_real (gi a n 1 k + gh a (hid a n) 1 k)
    obtain ⟨q, hq⟩ := tanh_real (gi a n 2 k + Ideal.logistic (gi a n 0 k + gh a (hid a n) 0 k) * gh a (hid a n) 2 k)
    obtain ⟨h, hh⟩ := ih k
    refine ⟨(1 - z) * q + z * h, ?_⟩
    show (1 - zg a n (hid a n) k) * ng a n (hid a n) k + zg a n (hid a n) k * hid a n k = _
    unfold zg ng
    rw [hz, hq, hh]
    norm_cast

/-- The static adjacency is real. -/
theorem vs_real (v : Fin 128) : ∃ r : ℝ, vs a v = (r : EReal) := logistic_real _

/-- A sum of reals is read off their images. -/
theorem coe_sum' {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- Where the last matrix is real, weighting the states before or after the product is one. -/
theorem sf_eq (hW : ∀ i, ∃ r : ℝ, a.Ws i = (r : EReal)) : sf a = sfR a := by
  funext c
  choose W hW using hW
  choose H hH using hid_real a
  choose S hS using vs_real a
  unfold sf sfR sv
  simp only [Finset.sum_range, hW, hH, hS, ← EReal.coe_mul, ← coe_sum']
  congr 1
  simp only [Finset.sum_mul, Finset.mul_sum]
  rw [Finset.sum_comm]
  refine Finset.sum_congr rfl fun t _ => Finset.sum_congr rfl fun w _ => ?_
  rw [show ft t.val = t from Fin.ext (Nat.mod_eq_of_lt t.isLt), mul_assoc]

end Cert.Spec

end
-- ==== Proof.KernelIdealWins.lean ====
module

public import proofs.«01_k».proof.Proof.KernelIdealBody
public import proofs.«01_k».proof.Proof.Spec

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

local notation "𝔽" => Idealize.ShloMosaic.Ideal

variable (m : (ℓ : Loc nD τ sig) → Buf (Elt 𝔽) ℓ) (ρ : Dev nD → PrngReg)

variable (Inv : Dev nD → ℕ → Scr 𝔽 → Prop) (G : Dev nD → Vec 𝔽 S5x128 .f32 → Prop)

/-- The program's arguments in the memory the run starts from. -/
def argsOf (c : Dev nD) : Spec.Args where
  x := m ((c : Thread nD τ).loc main_arg0)
  fft := m ((c : Thread nD τ).loc main_arg1)
  Wfuse := m ((c : Thread nD τ).loc main_arg2)
  bfuse := m ((c : Thread nD τ).loc main_arg3)
  Wtime := m ((c : Thread nD τ).loc main_arg4)
  btime := m ((c : Thread nD τ).loc main_arg5)
  Wih := m ((c : Thread nD τ).loc main_arg6)
  Whh := m ((c : Thread nD τ).loc main_arg7)
  bih := m ((c : Thread nD τ).loc main_arg8)
  bhh := m ((c : Thread nD τ).loc main_arg9)
  Wtadj := m ((c : Thread nD τ).loc main_arg10)
  Wt := m ((c : Thread nD τ).loc main_arg11)
  Wsadj := m ((c : Thread nD τ).loc main_arg12)
  Ws := m ((c : Thread nD τ).loc main_arg13)
  Wfcn := m ((c : Thread nD τ).loc main_arg14)
  bfcn := m ((c : Thread nD τ).loc main_arg15)

/-- The grid's coordinate at a point is the point. -/
theorem coord0 : ∀ t : Fin grid0.N, (grid0.coords t 0).val = t.val := by decide +kernel

/-- Window 0 holds its whole array at every point. -/
theorem win0_val (c : Dev nD) (t : Fin grid0.N) (Y) (hY : (rdat m Inv G c).Finds 0 t Y) : Y = (argsOf m c).x := by
  obtain ⟨d, rfl⟩ := RDat.finds_in_eq_fetched (rdat m Inv G c) 0 rfl (fun _ _ _ => rfl) (fun _ _ _ h => h) t Y hY
  funext j
  show V m c main_arg0 ((win0_0.rect t).emb j) = _
  rw [V_arg m main_arg0 (by simp)]
  show m ((c : Thread nD τ).loc main_arg0) _ = m ((c : Thread nD τ).loc main_arg0) _
  congr 1
  funext b
  fin_cases b
  · exact Fin.ext (show 0 * 5 + 1 * (j 0).val = (j 0).val by omega)
  · exact Fin.ext (show 0 * 128 + 1 * (j 1).val = (j 1).val by omega)

/-- Window 1 holds its whole array at every point. -/
theorem win1_val (c : Dev nD) (t : Fin grid0.N) (Y) (hY : (rdat m Inv G c).Finds 1 t Y) : Y = V m c main_call0_v11 := by
  obtain ⟨d, rfl⟩ := RDat.finds_in_eq_fetched (rdat m Inv G c) 1 rfl (fun _ _ _ => rfl) (fun _ _ _ h => h) t Y hY
  funext j
  show V m c main_call0_v11 ((win0_1.rect t).emb j) = _
  congr 1
  funext b
  fin_cases b
  · exact Fin.ext (show 0 * 856 + 1 * (j 0).val = (j 0).val by omega)
  · exact Fin.ext (show 0 * 1 + 1 * (j 1).val = (j 1).val by omega)

/-- Window 2 holds its whole array at every point. -/
theorem win2_val (c : Dev nD) (t : Fin grid0.N) (Y) (hY : (rdat m Inv G c).Finds 2 t Y) : Y = (argsOf m c).fft := by
  obtain ⟨d, rfl⟩ := RDat.finds_in_eq_fetched (rdat m Inv G c) 2 rfl (fun _ _ _ => rfl) (fun _ _ _ h => h) t Y hY
  funext j
  show V m c main_arg1 ((win0_2.rect t).emb j) = _
  rw [V_arg m main_arg1 (by simp)]
  show m ((c : Thread nD τ).loc main_arg1) _ = m ((c : Thread nD τ).loc main_arg1) _
  congr 1
  funext b
  fin_cases b
  · exact Fin.ext (show 0 * 5 + 1 * (j 0).val = (j 0).val by omega)
  · exact Fin.ext (show 0 * 128 + 1 * (j 1).val = (j 1).val by omega)

/-- Window 3 holds its whole array at every point. -/
theorem win3_val (c : Dev nD) (t : Fin grid0.N) (Y) (hY : (rdat m Inv G c).Finds 3 t Y) : Y = (argsOf m c).Wfuse := by
  obtain ⟨d, rfl⟩ := RDat.finds_in_eq_fetched (rdat m Inv G c) 3 rfl (fun _ _ _ => rfl) (fun _ _ _ h => h) t Y hY
  funext j
  show V m c main_arg2 ((win0_3.rect t).emb j) = _
  rw [V_arg m main_arg2 (by simp)]
  show m ((c : Thread nD τ).loc main_arg2) _ = m ((c : Thread nD τ).loc main_arg2) _
  congr 1
  funext b
  fin_cases b
  · exact Fin.ext (show 0 * 256 + 1 * (j 0).val = (j 0).val by omega)
  · exact Fin.ext (show 0 * 128 + 1 * (j 1).val = (j 1).val by omega)

/-- Window 4 holds its whole array at every point. -/
theorem win4_val (c : Dev nD) (t : Fin grid0.N) (Y) (hY : (rdat m Inv G c).Finds 4 t Y) : Y = (argsOf m c).bfuse := by
  obtain ⟨d, rfl⟩ := RDat.finds_in_eq_fetched (rdat m Inv G c) 4 rfl (fun _ _ _ => rfl) (fun _ _ _ h => h) t Y hY
  funext j
  show V m c main_arg3 ((win0_4.rect t).emb j) = _
  rw [V_arg m main_arg3 (by simp)]
  show m ((c : Thread nD τ).loc main_arg3) _ = m ((c : Thread nD τ).loc main_arg3) _
  congr 1
  funext b
  fin_cases b
  · exact Fin.ext (show 0 * 128 + 1 * (j 0).val = (j 0).val by omega)

/-- Window 5 holds its whole array at every point. -/
theorem win5_val (c : Dev nD) (t : Fin grid0.N) (Y) (hY : (rdat m Inv G c).Finds 5 t Y) : Y = (argsOf m c).Wtadj := by
  obtain ⟨d, rfl⟩ := RDat.finds_in_eq_fetched (rdat m Inv G c) 5 rfl (fun _ _ _ => rfl) (fun _ _ _ h => h) t Y hY
  funext j
  show V m c main_arg10 ((win0_5.rect t).emb j) = _
  rw [V_arg m main_arg10 (by simp)]
  show m ((c : Thread nD τ).loc main_arg10) _ = m ((c : Thread nD τ).loc main_arg10) _
  congr 1
  funext b
  fin_cases b
  · exact Fin.ext (show 0 * 5 + 1 * (j 0).val = (j 0).val by omega)
  · exact Fin.ext (show 0 * 5 + 1 * (j 1).val = (j 1).val by omega)

/-- Window 6 holds its whole array at every point. -/
theorem win6_val (c : Dev nD) (t : Fin grid0.N) (Y) (hY : (rdat m Inv G c).Finds 6 t Y) : Y = (argsOf m c).Wt := by
  obtain ⟨d, rfl⟩ := RDat.finds_in_eq_fetched (rdat m Inv G c) 6 rfl (fun _ _ _ => rfl) (fun _ _ _ h => h) t Y hY
  funext j
  show V m c main_arg11 ((win0_6.rect t).emb j) = _
  rw [V_arg m main_arg11 (by simp)]
  show m ((c : Thread nD τ).loc main_arg11) _ = m ((c : Thread nD τ).loc main_arg11) _
  congr 1
  funext b
  fin_cases b
  · exact Fin.ext (show 0 * 128 + 1 * (j 0).val = (j 0).val by omega)
  · exact Fin.ext (show 0 * 16 + 1 * (j 1).val = (j 1).val by omega)

/-- Window 7 holds its whole array at every point. -/
theorem win7_val (c : Dev nD) (t : Fin grid0.N) (Y) (hY : (rdat m Inv G c).Finds 7 t Y) : Y = (argsOf m c).Wsadj := by
  obtain ⟨d, rfl⟩ := RDat.finds_in_eq_fetched (rdat m Inv G c) 7 rfl (fun _ _ _ => rfl) (fun _ _ _ h => h) t Y hY
  funext j
  show V m c main_arg12 ((win0_7.rect t).emb j) = _
  rw [V_arg m main_arg12 (by simp)]
  show m ((c : Thread nD τ).loc main_arg12) _ = m ((c : Thread nD τ).loc main_arg12) _
  congr 1
  funext b
  fin_cases b
  · exact Fin.ext (show 0 * 128 + 1 * (j 0).val = (j 0).val by omega)
  · exact Fin.ext (show 0 * 128 + 1 * (j 1).val = (j 1).val by omega)

/-- Window 8 holds its whole array at every point. -/
theorem win8_val (c : Dev nD) (t : Fin grid0.N) (Y) (hY : (rdat m Inv G c).Finds 8 t Y) : Y = (argsOf m c).Ws := by
  obtain ⟨d, rfl⟩ := RDat.finds_in_eq_fetched (rdat m Inv G c) 8 rfl (fun _ _ _ => rfl) (fun _ _ _ h => h) t Y hY
  funext j
  show V m c main_arg13 ((win0_8.rect t).emb j) = _
  rw [V_arg m main_arg13 (by simp)]
  show m ((c : Thread nD τ).loc main_arg13) _ = m ((c : Thread nD τ).loc main_arg13) _
  congr 1
  funext b
  fin_cases b
  · exact Fin.ext (show 0 * 5 + 1 * (j 0).val = (j 0).val by omega)
  · exact Fin.ext (show 0 * 16 + 1 * (j 1).val = (j 1).val by omega)

/-- Window 13 holds its whole array at every point. -/
theorem win13_val (c : Dev nD) (t : Fin grid0.N) (Y) (hY : (rdat m Inv G c).Finds 13 t Y) : Y = (argsOf m c).bfcn := by
  obtain ⟨d, rfl⟩ := RDat.finds_in_eq_fetched (rdat m Inv G c) 13 rfl (fun _ _ _ => rfl) (fun _ _ _ h => h) t Y hY
  funext j
  show V m c main_arg15 ((win0_13.rect t).emb j) = _
  rw [V_arg m main_arg15 (by simp)]
  show m ((c : Thread nD τ).loc main_arg15) _ = m ((c : Thread nD τ).loc main_arg15) _
  congr 1
  funext b
  fin_cases b
  · exact Fin.ext (show 0 * 640 + 1 * (j 0).val = (j 0).val by omega)

/-- A coordinate of a block that lies inside the array is moved. -/
theorem moved_of {ix k d j : ℕ} (h : j < k) (h' : ix * k + j < d) : j < (Pipeline.Clip.of ix k d).extent k := by
  unfold Pipeline.Clip.of
  split
  · exact h
  · show j < d - ix * k
    omega

/-- Window 9's block at a point. -/
theorem index9 : ∀ t : Fin grid0.N, cc0_transform_9 (grid0.coords t) = ![(16 - 4 * t.val), 0] := by decide +kernel

/-- Window 9 holds its block of the weights' rows. -/
theorem win9_val (c : Dev nD) (t : Fin grid0.N) (Y) (hY : (rdat m Inv G c).Finds 9 t Y) (k : Fin 1024) (o : Fin 640) :
    Y (ix2 k o) = Spec.wf (argsOf m c) (16384 - 4096 * t.val + k.val) o := by
  obtain ⟨d, rfl⟩ := RDat.finds_in_eq_fetched (rdat m Inv G c) 9 rfl
    (fun t t' h => by
      have h' : cc0_transform_9 (grid0.coords t) = cc0_transform_9 (grid0.coords t') := h
      funext b
      show Pipeline.Clip.of (cc0_transform_9 (grid0.coords t) b) _ _ = Pipeline.Clip.of (cc0_transform_9 (grid0.coords t') b) _ _
      rw [h']) (fun _ _ _ h => h) t Y hY
  have hkk := k.isLt
  have htt : t.val < 5 := t.isLt
  have hn : 16384 - 4096 * t.val + k.val < 18537 := by omega
  have hi := index9 t
  have hm : win0_9.moved (grid0.coords t) (ix2 k o) = true := by
    rw [Pipeline.Window.moved_iff]
    intro b
    show _ < (Pipeline.Clip.of (cc0_transform_9 (grid0.coords t) b) _ _).extent _
    fin_cases b
    · refine moved_of ?_ ?_
      · exact hkk
      · show cc0_transform_9 (grid0.coords t) 0 * 1024 + k.val < 18537
        rw [hi]
        show (16 - 4 * t.val) * 1024 + k.val < 18537
        omega
    · refine moved_of ?_ ?_
      · exact o.isLt
      · show cc0_transform_9 (grid0.coords t) 1 * 640 + o.val < 640
        rw [hi]
        show 0 * 640 + o.val < 640
        omega
  unfold RDat.fetched Pipeline.Window.fill
  rw [dif_pos hm]
  unfold Spec.wf
  rw [dif_pos hn]
  show V m c main_arg14 ((win0_9.rect t).emb _) = m ((c : Thread nD τ).loc main_arg14) _
  rw [V_arg m main_arg14 (by simp)]
  congr 1
  funext b
  fin_cases b
  · refine Fin.ext ?_
    show cc0_transform_9 (grid0.coords t) 0 * 1024 + 1 * k.val = _
    rw [hi]
    show (16 - 4 * t.val) * 1024 + 1 * k.val = 16384 - 4096 * t.val + k.val
    omega
  · refine Fin.ext ?_
    show cc0_transform_9 (grid0.coords t) 1 * 640 + 1 * o.val = o.val
    rw [hi]
    show 0 * 640 + 1 * o.val = o.val
    omega

/-- Window 10's block at a point. -/
theorem index10 : ∀ t : Fin grid0.N, cc0_transform_10 (grid0.coords t) = ![(16 - 4 * t.val + 1), 0] := by decide +kernel

/-- Window 10 holds its block of the weights' rows. -/
theorem win10_val (c : Dev nD) (t : Fin grid0.N) (Y) (hY : (rdat m Inv G c).Finds 10 t Y) (k : Fin 1024) (o : Fin 640) :
    Y (ix2 k o) = Spec.wf (argsOf m c) (16384 - 4096 * t.val + 1024 + k.val) o := by
  obtain ⟨d, rfl⟩ := RDat.finds_in_eq_fetched (rdat m Inv G c) 10 rfl
    (fun t t' h => by
      have h' : cc0_transform_10 (grid0.coords t) = cc0_transform_10 (grid0.coords t') := h
      funext b
      show Pipeline.Clip.of (cc0_transform_10 (grid0.coords t) b) _ _ = Pipeline.Clip.of (cc0_transform_10 (grid0.coords t') b) _ _
      rw [h']) (fun _ _ _ h => h) t Y hY
  have hkk := k.isLt
  have htt : t.val < 5 := t.isLt
  have hn : 16384 - 4096 * t.val + 1024 + k.val < 18537 := by omega
  have hi := index10 t
  have hm : win0_10.moved (grid0.coords t) (ix2 k o) = true := by
    rw [Pipeline.Window.moved_iff]
    intro b
    show _ < (Pipeline.Clip.of (cc0_transform_10 (grid0.coords t) b) _ _).extent _
    fin_cases b
    · refine moved_of ?_ ?_
      · exact hkk
      · show cc0_transform_10 (grid0.coords t) 0 * 1024 + k.val < 18537
        rw [hi]
        show (16 - 4 * t.val + 1) * 1024 + k.val < 18537
        omega
    · refine moved_of ?_ ?_
      · exact o.isLt
      · show cc0_transform_10 (grid0.coords t) 1 * 640 + o.val < 640
        rw [hi]
        show 0 * 640 + o.val < 640
        omega
  unfold RDat.fetched Pipeline.Window.fill
  rw [dif_pos hm]
  unfold Spec.wf
  rw [dif_pos hn]
  show V m c main_arg14 ((win0_10.rect t).emb _) = m ((c : Thread nD τ).loc main_arg14) _
  rw [V_arg m main_arg14 (by simp)]
  congr 1
  funext b
  fin_cases b
  · refine Fin.ext ?_
    show cc0_transform_10 (grid0.coords t) 0 * 1024 + 1 * k.val = _
    rw [hi]
    show (16 - 4 * t.val + 1) * 1024 + 1 * k.val = 16384 - 4096 * t.val + 1024 + k.val
    omega
  · refine Fin.ext ?_
    show cc0_transform_10 (grid0.coords t) 1 * 640 + 1 * o.val = o.val
    rw [hi]
    show 0 * 640 + 1 * o.val = o.val
    omega

/-- Window 11's block at a point. -/
theorem index11 : ∀ t : Fin grid0.N, cc0_transform_11 (grid0.coords t) = ![(16 - 4 * t.val + 2), 0] := by decide +kernel

/-- Window 11 holds its block of the weights' rows. -/
theorem win11_val (c : Dev nD) (t : Fin grid0.N) (Y) (hY : (rdat m Inv G c).Finds 11 t Y) (k : Fin 1024) (o : Fin 640) (hk : 16384 - 4096 * t.val + 2048 + k.val < 18537) :
    Y (ix2 k o) = Spec.wf (argsOf m c) (16384 - 4096 * t.val + 2048 + k.val) o := by
  obtain ⟨d, rfl⟩ := RDat.finds_in_eq_fetched (rdat m Inv G c) 11 rfl
    (fun t t' h => by
      have h' : cc0_transform_11 (grid0.coords t) = cc0_transform_11 (grid0.coords t') := h
      funext b
      show Pipeline.Clip.of (cc0_transform_11 (grid0.coords t) b) _ _ = Pipeline.Clip.of (cc0_transform_11 (grid0.coords t') b) _ _
      rw [h']) (fun _ _ _ h => h) t Y hY
  have hkk := k.isLt
  have htt : t.val < 5 := t.isLt
  have hn : 16384 - 4096 * t.val + 2048 + k.val < 18537 := by omega
  have hi := index11 t
  have hm : win0_11.moved (grid0.coords t) (ix2 k o) = true := by
    rw [Pipeline.Window.moved_iff]
    intro b
    show _ < (Pipeline.Clip.of (cc0_transform_11 (grid0.coords t) b) _ _).extent _
    fin_cases b
    · refine moved_of ?_ ?_
      · exact hkk
      · show cc0_transform_11 (grid0.coords t) 0 * 1024 + k.val < 18537
        rw [hi]
        show (16 - 4 * t.val + 2) * 1024 + k.val < 18537
        omega
    · refine moved_of ?_ ?_
      · exact o.isLt
      · show cc0_transform_11 (grid0.coords t) 1 * 640 + o.val < 640
        rw [hi]
        show 0 * 640 + o.val < 640
        omega
  unfold RDat.fetched Pipeline.Window.fill
  rw [dif_pos hm]
  unfold Spec.wf
  rw [dif_pos hn]
  show V m c main_arg14 ((win0_11.rect t).emb _) = m ((c : Thread nD τ).loc main_arg14) _
  rw [V_arg m main_arg14 (by simp)]
  congr 1
  funext b
  fin_cases b
  · refine Fin.ext ?_
    show cc0_transform_11 (grid0.coords t) 0 * 1024 + 1 * k.val = _
    rw [hi]
    show (16 - 4 * t.val + 2) * 1024 + 1 * k.val = 16384 - 4096 * t.val + 2048 + k.val
    omega
  · refine Fin.ext ?_
    show cc0_transform_11 (grid0.coords t) 1 * 640 + 1 * o.val = o.val
    rw [hi]
    show 0 * 640 + 1 * o.val = o.val
    omega

/-- Window 12's block at a point. -/
theorem index12 : ∀ t : Fin grid0.N, cc0_transform_12 (grid0.coords t) = ![min (16 - 4 * t.val + 3) 18, 0] := by decide +kernel

/-- Window 12 holds its block of the weights' rows. -/
theorem win12_val (c : Dev nD) (t : Fin grid0.N) (Y) (hY : (rdat m Inv G c).Finds 12 t Y) (k : Fin 1024) (o : Fin 640) (ht : 0 < t.val) :
    Y (ix2 k o) = Spec.wf (argsOf m c) (16384 - 4096 * t.val + 3072 + k.val) o := by
  obtain ⟨d, rfl⟩ := RDat.finds_in_eq_fetched (rdat m Inv G c) 12 rfl
    (fun t t' h => by
      have h' : cc0_transform_12 (grid0.coords t) = cc0_transform_12 (grid0.coords t') := h
      funext b
      show Pipeline.Clip.of (cc0_transform_12 (grid0.coords t) b) _ _ = Pipeline.Clip.of (cc0_transform_12 (grid0.coords t') b) _ _
      rw [h']) (fun _ _ _ h => h) t Y hY
  have hkk := k.isLt
  have htt : t.val < 5 := t.isLt
  have hn : 16384 - 4096 * t.val + 3072 + k.val < 18537 := by omega
  have hi := index12 t
  have hm : win0_12.moved (grid0.coords t) (ix2 k o) = true := by
    rw [Pipeline.Window.moved_iff]
    intro b
    show _ < (Pipeline.Clip.of (cc0_transform_12 (grid0.coords t) b) _ _).extent _
    fin_cases b
    · refine moved_of ?_ ?_
      · exact hkk
      · show cc0_transform_12 (grid0.coords t) 0 * 1024 + k.val < 18537
        rw [hi]
        show min (16 - 4 * t.val + 3) 18 * 1024 + k.val < 18537
        omega
    · refine moved_of ?_ ?_
      · exact o.isLt
      · show cc0_transform_12 (grid0.coords t) 1 * 640 + o.val < 640
        rw [hi]
        show 0 * 640 + o.val < 640
        omega
  unfold RDat.fetched Pipeline.Window.fill
  rw [dif_pos hm]
  unfold Spec.wf
  rw [dif_pos hn]
  show V m c main_arg14 ((win0_12.rect t).emb _) = m ((c : Thread nD τ).loc main_arg14) _
  rw [V_arg m main_arg14 (by simp)]
  congr 1
  funext b
  fin_cases b
  · refine Fin.ext ?_
    show cc0_transform_12 (grid0.coords t) 0 * 1024 + 1 * k.val = _
    rw [hi]
    show min (16 - 4 * t.val + 3) 18 * 1024 + 1 * k.val = 16384 - 4096 * t.val + 3072 + k.val
    omega
  · refine Fin.ext ?_
    show cc0_transform_12 (grid0.coords t) 1 * 640 + 1 * o.val = o.val
    rw [hi]
    show 0 * 640 + 1 * o.val = o.val
    omega

end Cert.KernelIdeal.Hand
end
-- ==== Proof.KernelIdealTrip.lean ====
module

public import proofs.«01_k».proof.Proof.KernelIdealKit
public import proofs.«01_k».proof.Proof.Spec
public import Idealize.ShloMosaic.Lib.Pointwise
public import Idealize.ShloMosaic.Lib.Pipeline.ValueKit
public import Idealize.ShloMosaic.Lib.VecWindow

@[expose] public section

set_option maxRecDepth 16384

noncomputable section

namespace Cert.KernelIdeal.Hand

open Idealize.ShloMosaic Idealize.ShloMosaic.TcCoe Idealize.ShloMosaic.Tactic
open Cert.KernelIdeal Cert.KernelIdeal.Gen

local notation "𝔽" => Idealize.ShloMosaic.Ideal
/-- The recurrence's carried pair after `n` steps: the state, and its weighted sum. -/
def carried (a : Spec.Args) (n : ℕ) : Vec 𝔽 S5x1 .f32 × Vec 𝔽 S5x1 .f32 :=
  (fun j => Spec.hid a n (j 0), fun j => Spec.sv a n (j 0))

/-- One more step of the weighted sum. -/
theorem sv_succ (a : Spec.Args) (n : ℕ) (w : Fin 5) :
    Spec.sv a (n + 1) w = Spec.sv a n w + Spec.vs a (Spec.ft n) * Spec.hid a (n + 1) w := Finset.sum_range_succ _ _

set_option maxHeartbeats 4000000 in
/-- The recurrence's input, from the weights and the time's column. -/
theorem tim_val (a : Spec.Args) (n : ℕ) (xt : Vec 𝔽 S5x1 .f32) (hx : ∀ r : Fin 5, xt (ix2 r 0) = a.x (ix2 r (Spec.ft n))) :
    k0_pay146 (F := 𝔽) (fun j => a.Wtime (ix2 0 (j 0))) (fun j => a.Wtime (ix2 1 (j 0))) (fun j => a.Wtime (ix2 2 (j 0))) (fun j => a.Wtime (ix2 3 (j 0))) (fun j => a.Wtime (ix2 4 (j 0))) (fun j => a.btime (ix1 (j 0))) xt = fun j => Spec.tim a n (j 0) := by
  funext j
  idx_vars j
  pointwise [k0_pay146, Spec.tim]
  simp only [hx, Fin.sum_univ_five, ne_eq, not_true_eq_false, if_false]
  congr 1
  ac_rfl

set_option maxHeartbeats 4000000 in
/-- The new state. -/
theorem hid_val (a : Spec.Args) (n : ℕ) (xt : Vec 𝔽 S5x1 .f32) (hx : ∀ r : Fin 5, xt (ix2 r 0) = a.x (ix2 r (Spec.ft n))) :
    k0_pay345 (F := 𝔽) (fun j => a.Whh (ix2 (Spec.gate 0 (j 0)) 4)) (fun j => a.Whh (ix2 (Spec.gate 1 (j 0)) 4)) (fun j => a.Whh (ix2 (Spec.gate 2 (j 0)) 4)) (carried a n).1
      (k0_pay156 (fun j => a.Wih (ix2 (Spec.gate 0 (j 0)) 2)) (fun j => a.Wih (ix2 (Spec.gate 0 (j 0)) 3)) (fun j => a.Wih (ix2 (Spec.gate 0 (j 0)) 4)) (fun j => Spec.tim a n (j 0)) (k0_pay149 (fun j => a.Wtime (ix2 0 (j 0))) (fun j => a.Wtime (ix2 1 (j 0))) (fun j => a.Wtime (ix2 2 (j 0))) (fun j => a.Wtime (ix2 3 (j 0))) (fun j => a.Wtime (ix2 4 (j 0))) (fun j => a.Wih (ix2 (Spec.gate 0 (j 0)) 0)) (fun j => a.Wih (ix2 (Spec.gate 0 (j 0)) 1)) (fun j => a.btime (ix1 (j 0))) (fun j => a.bih (ix1 (Spec.gate 0 (j 0)))) xt) (k0_pay152 (fun j => a.Wtime (ix2 0 (j 0))) (fun j => a.Wtime (ix2 1 (j 0))) (fun j => a.Wtime (ix2 2 (j 0))) (fun j => a.Wtime (ix2 3 (j 0))) (fun j => a.Wtime (ix2 4 (j 0))) (fun j => a.btime (ix1 (j 0))) xt))
      (k0_pay157 (fun j => a.Wih (ix2 (Spec.gate 1 (j 0)) 2)) (fun j => a.Wih (ix2 (Spec.gate 1 (j 0)) 3)) (fun j => a.Wih (ix2 (Spec.gate 1 (j 0)) 4)) (fun j => Spec.tim a n (j 0)) (k0_pay150 (fun j => a.Wtime (ix2 0 (j 0))) (fun j => a.Wtime (ix2 1 (j 0))) (fun j => a.Wtime (ix2 2 (j 0))) (fun j => a.Wtime (ix2 3 (j 0))) (fun j => a.Wtime (ix2 4 (j 0))) (fun j => a.Wih (ix2 (Spec.gate 1 (j 0)) 0)) (fun j => a.Wih (ix2 (Spec.gate 1 (j 0)) 1)) (fun j => a.btime (ix1 (j 0))) (fun j => a.bih (ix1 (Spec.gate 1 (j 0)))) xt) (k0_pay152 (fun j => a.Wtime (ix2 0 (j 0))) (fun j => a.Wtime (ix2 1 (j 0))) (fun j => a.Wtime (ix2 2 (j 0))) (fun j => a.Wtime (ix2 3 (j 0))) (fun j => a.Wtime (ix2 4 (j 0))) (fun j => a.btime (ix1 (j 0))) xt))
      (k0_pay158 (fun j => a.Wih (ix2 (Spec.gate 2 (j 0)) 2)) (fun j => a.Wih (ix2 (Spec.gate 2 (j 0)) 3)) (fun j => a.Wih (ix2 (Spec.gate 2 (j 0)) 4)) (fun j => Spec.tim a n (j 0)) (k0_pay151 (fun j => a.Wtime (ix2 0 (j 0))) (fun j => a.Wtime (ix2 1 (j 0))) (fun j => a.Wtime (ix2 2 (j 0))) (fun j => a.Wtime (ix2 3 (j 0))) (fun j => a.Wtime (ix2 4 (j 0))) (fun j => a.Wih (ix2 (Spec.gate 2 (j 0)) 0)) (fun j => a.Wih (ix2 (Spec.gate 2 (j 0)) 1)) (fun j => a.btime (ix1 (j 0))) (fun j => a.bih (ix1 (Spec.gate 2 (j 0)))) xt) (k0_pay152 (fun j => a.Wtime (ix2 0 (j 0))) (fun j => a.Wtime (ix2 1 (j 0))) (fun j => a.Wtime (ix2 2 (j 0))) (fun j => a.Wtime (ix2 3 (j 0))) (fun j => a.Wtime (ix2 4 (j 0))) (fun j => a.btime (ix1 (j 0))) xt))
      (k0_pay162 (fun j => a.Whh (ix2 (Spec.gate 2 (j 0)) 0)) (fun j => a.Whh (ix2 (Spec.gate 2 (j 0)) 1)) (fun j => a.Whh (ix2 (Spec.gate 2 (j 0)) 2)) (fun j => a.bhh (ix1 (Spec.gate 2 (j 0)))) (carried a n).1)
      (k0_pay164 (fun j => a.Whh (ix2 (Spec.gate 0 (j 0)) 0)) (fun j => a.Whh (ix2 (Spec.gate 0 (j 0)) 1)) (fun j => a.Whh (ix2 (Spec.gate 0 (j 0)) 2)) (fun j => a.Whh (ix2 (Spec.gate 0 (j 0)) 3)) (fun j => a.bhh (ix1 (Spec.gate 0 (j 0)))) (carried a n).1)
      (k0_pay165 (fun j => a.Whh (ix2 (Spec.gate 1 (j 0)) 0)) (fun j => a.Whh (ix2 (Spec.gate 1 (j 0)) 1)) (fun j => a.Whh (ix2 (Spec.gate 1 (j 0)) 2)) (fun j => a.Whh (ix2 (Spec.gate 1 (j 0)) 3)) (fun j => a.bhh (ix1 (Spec.gate 1 (j 0)))) (carried a n).1)
      (k0_pay166 (fun j => a.Whh (ix2 (Spec.gate 2 (j 0)) 3)) (carried a n).1) = (carried a (n + 1)).1 := by
  funext j
  simp only [k0_pay149, k0_pay150, k0_pay151, k0_pay147, k0_pay148, k0_pay152, tim_val a n xt hx]
  unfold_payloads
  idx_vars j
  pointwise [carried]
  simp only [Spec.half_tanh]
  show _ = Spec.step a n (Spec.hid a n) j0
  simp only [Spec.step, Spec.zg, Spec.ng, Spec.gi, Spec.gh, Fin.sum_univ_five]
  ac_rfl

set_option maxHeartbeats 4000000 in
/-- One trip, at the weights and at time `n`, is the recurrence's step. -/
theorem trip_step (a : Spec.Args) (n : ℕ) (𝒱 : Variants) (c : Dev nD) (bd : Option 𝒱.V) (i : grid0.Coords) (arg1 : Memref sig .tc .vmem S5x128 .f32) (harg1 : arg1.IsWhole) (arg2 : Memref sig .tc .vmem S856x1 .f32) (harg2 : arg2.IsWhole) (arg3 : Memref sig .tc .vmem S5x128 .f32) (harg3 : arg3.IsWhole) (arg4 : Memref sig .tc .vmem S256x128 .f32) (harg4 : arg4.IsWhole) (arg5 : Memref sig .tc .vmem S128 .f32) (harg5 : arg5.IsWhole) (arg6 : Memref sig .tc .vmem S5x5 .f32) (harg6 : arg6.IsWhole) (arg7 : Memref sig .tc .vmem S128x16 .f32) (harg7 : arg7.IsWhole) (arg8 : Memref sig .tc .vmem S128x128 .f32) (harg8 : arg8.IsWhole) (arg9 : Memref sig .tc .vmem S5x16 .f32) (harg9 : arg9.IsWhole) (arg10 : Memref sig .tc .vmem S1024x640 .f32) (harg10 : arg10.IsWhole) (arg11 : Memref sig .tc .vmem S1024x640 .f32) (harg11 : arg11.IsWhole) (arg12 : Memref sig .tc .vmem S1024x640 .f32) (harg12 : arg12.IsWhole) (arg13 : Memref sig .tc .vmem S1024x640 .f32) (harg13 : arg13.IsWhole) (arg14 : Memref sig .tc .vmem S640 .f32) (harg14 : arg14.IsWhole) (arg15 : Memref sig .tc .vmem S5x128 .f32) (harg15 : arg15.IsWhole) (arg16 : Memref sig .tc .vmem S1x20480 .f32) (harg16 : arg16.IsWhole) (arg17 : Memref sig .tc .vmem S1x640 .f32) (harg17 : arg17.IsWhole) (arg18 : Memref sig .tc .vmem S128x1 .f32) (harg18 : arg18.IsWhole) (arg19 : Memref sig .tc .vmem S5x1 .f32) (harg19 : arg19.IsWhole) (arg20 : Memref sig .tc .vmem S5x1 .f32) (harg20 : arg20.IsWhole) (k0_h2 : k0_cond2 i = 1#1)  (v122 : BitVec 32) (c0_i32_67 : BitVec 32) (c1_i32_69 : BitVec 32)  (X_arg2 : BufTy.Contents (Elt 𝔽) arg2.view.ty) (X_arg18 : BufTy.Contents (Elt 𝔽) arg18.view.ty) (k : Fin k0_t1_loop.trips)
    (hx : ∀ h (r : Fin 5), View.readAt (Elt 𝔽) arg2.view (Rect.unit (s := S856x1) (k0_off1 i k) ![5, 1] h).toLoadRect X_arg2 (ix2 r 0) = a.x (ix2 r (Spec.ft n)))
    (hs : ∀ h, View.readAt (Elt 𝔽) arg18.view (Rect.unit (s := S128x1) (k0_off2 i k) ![1, 1] h).toLoadRect X_arg18 (ix2 0 0) = Spec.vs a (Spec.ft n)) :
    tripR_k0_t1 (F := 𝔽) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h2 (fun j => a.Wtime (ix2 0 (j 0))) (fun j => a.Wtime (ix2 1 (j 0))) (fun j => a.Wtime (ix2 2 (j 0))) (fun j => a.Wtime (ix2 3 (j 0))) (fun j => a.Wtime (ix2 4 (j 0))) (fun j => a.Wih (ix2 (Spec.gate 0 (j 0)) 0)) (fun j => a.Wih (ix2 (Spec.gate 0 (j 0)) 1)) (fun j => a.Wih (ix2 (Spec.gate 0 (j 0)) 2)) (fun j => a.Wih (ix2 (Spec.gate 0 (j 0)) 3)) (fun j => a.Wih (ix2 (Spec.gate 0 (j 0)) 4)) (fun j => a.Wih (ix2 (Spec.gate 1 (j 0)) 0)) (fun j => a.Wih (ix2 (Spec.gate 1 (j 0)) 1)) (fun j => a.Wih (ix2 (Spec.gate 1 (j 0)) 2)) (fun j => a.Wih (ix2 (Spec.gate 1 (j 0)) 3)) (fun j => a.Wih (ix2 (Spec.gate 1 (j 0)) 4)) (fun j => a.Wih (ix2 (Spec.gate 2 (j 0)) 0)) (fun j => a.Wih (ix2 (Spec.gate 2 (j 0)) 1)) (fun j => a.Wih (ix2 (Spec.gate 2 (j 0)) 2)) (fun j => a.Wih (ix2 (Spec.gate 2 (j 0)) 3)) (fun j => a.Wih (ix2 (Spec.gate 2 (j 0)) 4)) (fun j => a.Whh (ix2 (Spec.gate 0 (j 0)) 0)) (fun j => a.Whh (ix2 (Spec.gate 0 (j 0)) 1)) (fun j => a.Whh (ix2 (Spec.gate 0 (j 0)) 2)) (fun j => a.Whh (ix2 (Spec.gate 0 (j 0)) 3)) (fun j => a.Whh (ix2 (Spec.gate 0 (j 0)) 4)) (fun j => a.Whh (ix2 (Spec.gate 1 (j 0)) 0)) (fun j => a.Whh (ix2 (Spec.gate 1 (j 0)) 1)) (fun j => a.Whh (ix2 (Spec.gate 1 (j 0)) 2)) (fun j => a.Whh (ix2 (Spec.gate 1 (j 0)) 3)) (fun j => a.Whh (ix2 (Spec.gate 1 (j 0)) 4)) (fun j => a.Whh (ix2 (Spec.gate 2 (j 0)) 0)) (fun j => a.Whh (ix2 (Spec.gate 2 (j 0)) 1)) (fun j => a.Whh (ix2 (Spec.gate 2 (j 0)) 2)) (fun j => a.Whh (ix2 (Spec.gate 2 (j 0)) 3)) (fun j => a.Whh (ix2 (Spec.gate 2 (j 0)) 4)) (fun j => a.btime (ix1 (j 0))) (fun j => a.bih (ix1 (Spec.gate 0 (j 0)))) (fun j => a.bih (ix1 (Spec.gate 1 (j 0)))) (fun j => a.bih (ix1 (Spec.gate 2 (j 0)))) (fun j => a.bhh (ix1 (Spec.gate 0 (j 0)))) (fun j => a.bhh (ix1 (Spec.gate 1 (j 0)))) (fun j => a.bhh (ix1 (Spec.gate 2 (j 0)))) v122 c0_i32_67 c1_i32_69 X_arg2 X_arg18 k (carried a n) = carried a (n + 1) := by
  unfold tripR_k0_t1 trip_k0_t1
  dsimp only
  simp only [trip_k0_t1.sl.r_5, trip_k0_t1.sl.r_6, trip_k0_t1.sl.r_7, trip_k0_t1.sl.r, trip_k0_t1.sl.r_1, trip_k0_t1.sl.r_2, trip_k0_t1.sl.r_3, trip_k0_t1.sl.r_4,
    trip_k0_t1.sl.r_8, trip_k0_t1.sl.r_9, trip_k0_t1.sl.r_10, trip_k0_t1.sl.r_11, tim_val a n _ (hx _)]
  simp only [k0_pay346]
  rw [hid_val a n _ (hx _)]
  refine Prod.ext rfl ?_
  funext j
  idx_vars j
  pointwise [carried]
  rw [sv_succ, hs]

/-- The trips carry the pair from `n` steps on. -/
theorem st_val (a : Spec.Args) (n : ℕ) (𝒱 : Variants) (c : Dev nD) (bd : Option 𝒱.V) (i : grid0.Coords) (arg1 : Memref sig .tc .vmem S5x128 .f32) (harg1 : arg1.IsWhole) (arg2 : Memref sig .tc .vmem S856x1 .f32) (harg2 : arg2.IsWhole) (arg3 : Memref sig .tc .vmem S5x128 .f32) (harg3 : arg3.IsWhole) (arg4 : Memref sig .tc .vmem S256x128 .f32) (harg4 : arg4.IsWhole) (arg5 : Memref sig .tc .vmem S128 .f32) (harg5 : arg5.IsWhole) (arg6 : Memref sig .tc .vmem S5x5 .f32) (harg6 : arg6.IsWhole) (arg7 : Memref sig .tc .vmem S128x16 .f32) (harg7 : arg7.IsWhole) (arg8 : Memref sig .tc .vmem S128x128 .f32) (harg8 : arg8.IsWhole) (arg9 : Memref sig .tc .vmem S5x16 .f32) (harg9 : arg9.IsWhole) (arg10 : Memref sig .tc .vmem S1024x640 .f32) (harg10 : arg10.IsWhole) (arg11 : Memref sig .tc .vmem S1024x640 .f32) (harg11 : arg11.IsWhole) (arg12 : Memref sig .tc .vmem S1024x640 .f32) (harg12 : arg12.IsWhole) (arg13 : Memref sig .tc .vmem S1024x640 .f32) (harg13 : arg13.IsWhole) (arg14 : Memref sig .tc .vmem S640 .f32) (harg14 : arg14.IsWhole) (arg15 : Memref sig .tc .vmem S5x128 .f32) (harg15 : arg15.IsWhole) (arg16 : Memref sig .tc .vmem S1x20480 .f32) (harg16 : arg16.IsWhole) (arg17 : Memref sig .tc .vmem S1x640 .f32) (harg17 : arg17.IsWhole) (arg18 : Memref sig .tc .vmem S128x1 .f32) (harg18 : arg18.IsWhole) (arg19 : Memref sig .tc .vmem S5x1 .f32) (harg19 : arg19.IsWhole) (arg20 : Memref sig .tc .vmem S5x1 .f32) (harg20 : arg20.IsWhole) (k0_h2 : k0_cond2 i = 1#1)  (v122 : BitVec 32) (c0_i32_67 : BitVec 32) (c1_i32_69 : BitVec 32)  (X_arg2 : BufTy.Contents (Elt 𝔽) arg2.view.ty) (X_arg18 : BufTy.Contents (Elt 𝔽) arg18.view.ty)
    (hx : ∀ (k : Fin k0_t1_loop.trips) h (r : Fin 5), View.readAt (Elt 𝔽) arg2.view (Rect.unit (s := S856x1) (k0_off1 i k) ![5, 1] h).toLoadRect X_arg2 (ix2 r 0) = a.x (ix2 r (Spec.ft (n + k.val))))
    (hs : ∀ (k : Fin k0_t1_loop.trips) h, View.readAt (Elt 𝔽) arg18.view (Rect.unit (s := S128x1) (k0_off2 i k) ![1, 1] h).toLoadRect X_arg18 (ix2 0 0) = Spec.vs a (Spec.ft (n + k.val))) (K : ℕ) (hK : K ≤ k0_t1_loop.trips) :
    st_k0_t1 (F := 𝔽) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h2 (fun j => a.Wtime (ix2 0 (j 0))) (fun j => a.Wtime (ix2 1 (j 0))) (fun j => a.Wtime (ix2 2 (j 0))) (fun j => a.Wtime (ix2 3 (j 0))) (fun j => a.Wtime (ix2 4 (j 0))) (fun j => a.Wih (ix2 (Spec.gate 0 (j 0)) 0)) (fun j => a.Wih (ix2 (Spec.gate 0 (j 0)) 1)) (fun j => a.Wih (ix2 (Spec.gate 0 (j 0)) 2)) (fun j => a.Wih (ix2 (Spec.gate 0 (j 0)) 3)) (fun j => a.Wih (ix2 (Spec.gate 0 (j 0)) 4)) (fun j => a.Wih (ix2 (Spec.gate 1 (j 0)) 0)) (fun j => a.Wih (ix2 (Spec.gate 1 (j 0)) 1)) (fun j => a.Wih (ix2 (Spec.gate 1 (j 0)) 2)) (fun j => a.Wih (ix2 (Spec.gate 1 (j 0)) 3)) (fun j => a.Wih (ix2 (Spec.gate 1 (j 0)) 4)) (fun j => a.Wih (ix2 (Spec.gate 2 (j 0)) 0)) (fun j => a.Wih (ix2 (Spec.gate 2 (j 0)) 1)) (fun j => a.Wih (ix2 (Spec.gate 2 (j 0)) 2)) (fun j => a.Wih (ix2 (Spec.gate 2 (j 0)) 3)) (fun j => a.Wih (ix2 (Spec.gate 2 (j 0)) 4)) (fun j => a.Whh (ix2 (Spec.gate 0 (j 0)) 0)) (fun j => a.Whh (ix2 (Spec.gate 0 (j 0)) 1)) (fun j => a.Whh (ix2 (Spec.gate 0 (j 0)) 2)) (fun j => a.Whh (ix2 (Spec.gate 0 (j 0)) 3)) (fun j => a.Whh (ix2 (Spec.gate 0 (j 0)) 4)) (fun j => a.Whh (ix2 (Spec.gate 1 (j 0)) 0)) (fun j => a.Whh (ix2 (Spec.gate 1 (j 0)) 1)) (fun j => a.Whh (ix2 (Spec.gate 1 (j 0)) 2)) (fun j => a.Whh (ix2 (Spec.gate 1 (j 0)) 3)) (fun j => a.Whh (ix2 (Spec.gate 1 (j 0)) 4)) (fun j => a.Whh (ix2 (Spec.gate 2 (j 0)) 0)) (fun j => a.Whh (ix2 (Spec.gate 2 (j 0)) 1)) (fun j => a.Whh (ix2 (Spec.gate 2 (j 0)) 2)) (fun j => a.Whh (ix2 (Spec.gate 2 (j 0)) 3)) (fun j => a.Whh (ix2 (Spec.gate 2 (j 0)) 4)) (fun j => a.btime (ix1 (j 0))) (fun j => a.bih (ix1 (Spec.gate 0 (j 0)))) (fun j => a.bih (ix1 (Spec.gate 1 (j 0)))) (fun j => a.bih (ix1 (Spec.gate 2 (j 0)))) (fun j => a.bhh (ix1 (Spec.gate 0 (j 0)))) (fun j => a.bhh (ix1 (Spec.gate 1 (j 0)))) (fun j => a.bhh (ix1 (Spec.gate 2 (j 0)))) v122 c0_i32_67 c1_i32_69 X_arg2 X_arg18 (carried a n) K = carried a (n + K) := by
  induction K with
  | zero => rfl
  | succ K ih =>
    rw [st_k0_t1_succ (k := ⟨K, hK⟩), ih (Nat.le_of_succ_le hK)]
    exact trip_step a (n + K) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h2 v122 c0_i32_67 c1_i32_69 X_arg2 X_arg18 ⟨K, hK⟩ (hx _) (hs _)

end Cert.KernelIdeal.Hand
end
-- ==== Proof.KernelIdealCols.lean ====
module

public import proofs.«01_k».proof.Proof.KernelIdealTrip

@[expose] public section

set_option maxRecDepth 16384

noncomputable section

namespace Cert.KernelIdeal.Hand

open Idealize.ShloMosaic Idealize.ShloMosaic.TcCoe Idealize.ShloMosaic.Tactic
open Cert.KernelIdeal Cert.KernelIdeal.Gen

local notation "𝔽" => Idealize.ShloMosaic.Ideal

/-- An entry read through a unit-step rectangle of a buffer. -/
theorem readAtV {sp : Space} {A B P Q : ℕ} {e : EltTy} (v : View sig .tc sp ⟨2, ![A, B]⟩ e) (f : v.ty.Contents (Elt 𝔽))
    (off : Fin 2 → ℕ) (hr) (r : Fin P) (c : Fin Q) (n k : ℕ) (hn : n < A) (hk : k < B)
    (e0 : n = off 0 + r.val) (e1 : k = off 1 + c.val) :
    View.readAt (Elt 𝔽) v (Rect.unit (s := ⟨2, ![A, B]⟩) off ![P, Q] hr).toLoadRect f (ix2 r c)
      = v.read (Elt 𝔽) f (ix2 ⟨n, hn⟩ ⟨k, hk⟩) := by
  show View.read (Elt 𝔽) v f _ = _
  refine congrArg (v.read (Elt 𝔽) f) ?_
  funext b
  fin_cases b
  · exact Fin.ext ((congrArg (off 0 + ·) (Nat.one_mul _)).trans e0.symm)
  · exact Fin.ext ((congrArg (off 1 + ·) (Nat.one_mul _)).trans e1.symm)

/-- The same of a whole buffer at given contents. -/
theorem readAt2 {sp : Space} {A B P Q : ℕ} {e : EltTy} {v : Memref sig .tc sp ⟨2, ![A, B]⟩ e} (hv : v.IsWhole)
    (X : Vec 𝔽 ⟨2, ![A, B]⟩ e) (off : Fin 2 → ℕ) (hr) (r : Fin P) (c : Fin Q) (n k : ℕ) (hn : n < A) (hk : k < B)
    (e0 : n = off 0 + r.val) (e1 : k = off 1 + c.val) :
    View.readAt (Elt 𝔽) v.view (Rect.unit (s := ⟨2, ![A, B]⟩) off ![P, Q] hr).toLoadRect (hv.unread X) (ix2 r c)
      = X (ix2 ⟨n, hn⟩ ⟨k, hk⟩) :=
  (readAtV v.view (hv.unread X) off hr r c n k hn hk e0 e1).trans (congrFun (hv.read_unread X) _)

/-- What the packed column holds: the input by columns, then each small weight by columns, then the biases. -/
structure Cols (cp : Vec 𝔽 S856x1 .f32) (a : Spec.Args) : Prop where
  x : ∀ (m : Fin 5) (t : Fin 128) (n : ℕ) (hn : n < 856), n = 5 * t.val + m.val → cp (ix2 ⟨n, hn⟩ 0) = a.x (ix2 m t)
  wtime : ∀ (m k : Fin 5) (n : ℕ) (hn : n < 856), n = 640 + 5 * m.val + k.val → cp (ix2 ⟨n, hn⟩ 0) = a.Wtime (ix2 m k)
  wih : ∀ (g : Fin 3) (m k : Fin 5) (n : ℕ) (hn : n < 856), n = 665 + 25 * g.val + 5 * m.val + k.val →
    cp (ix2 ⟨n, hn⟩ 0) = a.Wih (ix2 (Spec.gate g k) m)
  whh : ∀ (g : Fin 3) (m k : Fin 5) (n : ℕ) (hn : n < 856), n = 740 + 25 * g.val + 5 * m.val + k.val →
    cp (ix2 ⟨n, hn⟩ 0) = a.Whh (ix2 (Spec.gate g k) m)
  btime : ∀ (k : Fin 5) (n : ℕ) (hn : n < 856), n = 815 + k.val → cp (ix2 ⟨n, hn⟩ 0) = a.btime (ix1 k)
  bih : ∀ (g : Fin 3) (k : Fin 5) (n : ℕ) (hn : n < 856), n = 820 + 5 * g.val + k.val →
    cp (ix2 ⟨n, hn⟩ 0) = a.bih (ix1 (Spec.gate g k))
  bhh : ∀ (g : Fin 3) (k : Fin 5) (n : ℕ) (hn : n < 856), n = 835 + 5 * g.val + k.val →
    cp (ix2 ⟨n, hn⟩ 0) = a.bhh (ix1 (Spec.gate g k))

variable {arg2 : Memref sig .tc .vmem S856x1 .f32} (harg2 : arg2.IsWhole) {cp : Vec 𝔽 S856x1 .f32} {a : Spec.Args}

/-- Five entries read from the column, from row `o` on. -/
theorem read_col (o : ℕ) (hr) (hc) (f : Fin 5 → EReal)
    (H : ∀ (k : Fin 5) (n : ℕ) (hn : n < 856), n = o + k.val → cp (ix2 ⟨n, hn⟩ 0) = f k) :
    shapeCast S5x1 (View.readAt (Elt 𝔽) arg2.view (Rect.unit (s := S856x1) ![o, 0] S5x1.size hr).toLoadRect (harg2.unread cp)) hc
      = fun j => f (j 0) := by
  funext j
  idx_vars j
  refine (congrFun (shapeCast_self (s := S5x1) _ _) _).trans ?_
  have hb : o + 5 ≤ 856 := hr 0
  have h0 := j0.isLt
  have h1 := j1.isLt
  exact (readAt2 harg2 cp ![o, 0] hr j0 j1 (o + j0.val) 0 (by omega) (by omega) rfl (by show 0 = 0 + j1.val; omega)).trans
    (H j0 (o + j0.val) (by omega) rfl)

variable (H : Cols cp a)
include H

/-- Five packed entries from 640 on are a row of the time weights. -/
theorem Cols.r_time (m : Fin 5) (o : ℕ) (ho : o = 640 + 5 * m.val) (hr) (hc) :
    shapeCast S5x1 (View.readAt (Elt 𝔽) arg2.view (Rect.unit (s := S856x1) ![o, 0] S5x1.size hr).toLoadRect (harg2.unread cp)) hc
      = fun j => a.Wtime (ix2 m (j 0)) :=
  read_col harg2 o hr hc (fun k => a.Wtime (ix2 m k)) fun k n hn e => H.wtime m k n hn (by omega)

/-- Five packed entries from 665 on are a column of a gate's input weights. -/
theorem Cols.r_ih (g : Fin 3) (m : Fin 5) (o : ℕ) (ho : o = 665 + 25 * g.val + 5 * m.val) (hr) (hc) :
    shapeCast S5x1 (View.readAt (Elt 𝔽) arg2.view (Rect.unit (s := S856x1) ![o, 0] S5x1.size hr).toLoadRect (harg2.unread cp)) hc
      = fun j => a.Wih (ix2 (Spec.gate g (j 0)) m) :=
  read_col harg2 o hr hc (fun k => a.Wih (ix2 (Spec.gate g k) m)) fun k n hn e => H.wih g m k n hn (by omega)

/-- Five packed entries from 740 on are a column of a gate's state weights. -/
theorem Cols.r_hh (g : Fin 3) (m : Fin 5) (o : ℕ) (ho : o = 740 + 25 * g.val + 5 * m.val) (hr) (hc) :
    shapeCast S5x1 (View.readAt (Elt 𝔽) arg2.view (Rect.unit (s := S856x1) ![o, 0] S5x1.size hr).toLoadRect (harg2.unread cp)) hc
      = fun j => a.Whh (ix2 (Spec.gate g (j 0)) m) :=
  read_col harg2 o hr hc (fun k => a.Whh (ix2 (Spec.gate g k) m)) fun k n hn e => H.whh g m k n hn (by omega)

/-- The packed entries from 815 on are the time bias. -/
theorem Cols.r_btime (hr) (hc) :
    shapeCast S5x1 (View.readAt (Elt 𝔽) arg2.view (Rect.unit (s := S856x1) ![815, 0] S5x1.size hr).toLoadRect (harg2.unread cp)) hc
      = fun j => a.btime (ix1 (j 0)) :=
  read_col harg2 815 hr hc (fun k => a.btime (ix1 k)) fun k n hn e => H.btime k n hn (by omega)

/-- Five packed entries from 820 on are a gate's input bias. -/
theorem Cols.r_bih (g : Fin 3) (o : ℕ) (ho : o = 820 + 5 * g.val) (hr) (hc) :
    shapeCast S5x1 (View.readAt (Elt 𝔽) arg2.view (Rect.unit (s := S856x1) ![o, 0] S5x1.size hr).toLoadRect (harg2.unread cp)) hc
      = fun j => a.bih (ix1 (Spec.gate g (j 0))) :=
  read_col harg2 o hr hc (fun k => a.bih (ix1 (Spec.gate g k))) fun k n hn e => H.bih g k n hn (by omega)

/-- Five packed entries from 835 on are a gate's state bias. -/
theorem Cols.r_bhh (g : Fin 3) (o : ℕ) (ho : o = 835 + 5 * g.val) (hr) (hc) :
    shapeCast S5x1 (View.readAt (Elt 𝔽) arg2.view (Rect.unit (s := S856x1) ![o, 0] S5x1.size hr).toLoadRect (harg2.unread cp)) hc
      = fun j => a.bhh (ix1 (Spec.gate g (j 0))) :=
  read_col harg2 o hr hc (fun k => a.bhh (ix1 (Spec.gate g k))) fun k n hn e => H.bhh g k n hn (by omega)

end Cert.KernelIdeal.Hand
end
-- ==== Proof.KernelIdealPack.lean ====
module

public import proofs.«01_k».proof.Proof.KernelIdealWins
public import proofs.«01_k».proof.Proof.KernelIdealCols
public import Idealize.ShloMosaic.Lib.StableHlo.RunRead

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

local notation "𝔽" => Idealize.ShloMosaic.Ideal

variable (m : (ℓ : Loc nD τ sig) → Buf (Elt 𝔽) ℓ) (ρ : Dev nD → PrngReg)

/-- The packed column the host makes of seven arguments, before its last change of shape. -/
def packed (c : Dev nD) : Vec 𝔽 S856 .f32 :=
  concatenate S856 0
    [⟨S640, shapeCast S640 (transpose S128x5 [1, 0] (m ((c : Thread nD τ).loc main_arg0) : Vec 𝔽 S5x128 .f32) transposes_S5x128_S128x5_1_0) shapeCasts_S128x5_S640⟩,
      ⟨S25, shapeCast S25 (m ((c : Thread nD τ).loc main_arg4) : Vec 𝔽 S5x5 .f32) shapeCasts_S5x5_S25⟩,
      ⟨S75, shapeCast S75 (transpose S3x5x5 [0, 2, 1] (shapeCast S3x5x5 (m ((c : Thread nD τ).loc main_arg6) : Vec 𝔽 S15x5 .f32) shapeCasts_S15x5_S3x5x5) transposes_S3x5x5_S3x5x5_0_2_1) shapeCasts_S3x5x5_S75⟩,
      ⟨S75, shapeCast S75 (transpose S3x5x5 [0, 2, 1] (shapeCast S3x5x5 (m ((c : Thread nD τ).loc main_arg7) : Vec 𝔽 S15x5 .f32) shapeCasts_S15x5_S3x5x5) transposes_S3x5x5_S3x5x5_0_2_1) shapeCasts_S3x5x5_S75⟩,
      ⟨S5, (m ((c : Thread nD τ).loc main_arg5) : Vec 𝔽 S5 .f32)⟩, ⟨S15, (m ((c : Thread nD τ).loc main_arg8) : Vec 𝔽 S15 .f32)⟩,
      ⟨S15, (m ((c : Thread nD τ).loc main_arg9) : Vec 𝔽 S15 .f32)⟩,
      ⟨S6, broadcastInDim S6 ![] bcast_S_S6 (constant (F := 𝔽) S_ .f32 0x00000000#32)⟩]
    concatenates_S640_S25_S75_S75_S5_S15_S15_S6_S856_d0

/-- The column is the packed vector. -/
theorem pack_eq (c : Dev nD) : (V m c main_call0_v11 : Vec 𝔽 S856x1 .f32) = shapeCast S856x1 (packed m c) shapeCasts_S856_S856x1 := by
  rfl

/-- The argument's columns, one after the other. -/
theorem S640_val (v : Vec 𝔽 S5x128 .f32) (m : Fin 5) (t : Fin 128) (n : ℕ) (hn : n < 640) (e : n = 5 * t.val + m.val) :
    shapeCast S640 (transpose S128x5 [1, 0] v transposes_S5x128_S128x5_1_0) shapeCasts_S128x5_S640 (ix1 ⟨n, hn⟩) = v (ix2 m t) := by
  refine (shapeCast_apply _ _ _ (ix2 t m) ?_).trans ?_
  · rw [Shape.rowMajor_val_two, Shape.rowMajor_val_one]
    show t.val * 5 + m.val = n
    omega
  · pointwise []

/-- Three five-by-five blocks, each transposed, in one row. -/
theorem S75_val (v : Vec 𝔽 S15x5 .f32) (g : Fin 3) (m k : Fin 5) (n : ℕ) (hn : n < 75) (e : n = 25 * g.val + 5 * m.val + k.val) :
    shapeCast S75 (transpose S3x5x5 [0, 2, 1] (shapeCast S3x5x5 v shapeCasts_S15x5_S3x5x5) transposes_S3x5x5_S3x5x5_0_2_1) shapeCasts_S3x5x5_S75 (ix1 ⟨n, hn⟩)
      = v (ix2 (Spec.gate g k) m) := by
  refine (shapeCast_apply _ _ _ (ix3 g m k) ?_).trans ?_
  · rw [Shape.rowMajor_val_three, Shape.rowMajor_val_one]
    show (g.val * 5 + m.val) * 5 + k.val = n
    omega
  · refine Eq.trans (b := shapeCast S3x5x5 v shapeCasts_S15x5_S3x5x5 (ix3 g k m)) ?_ ?_
    · refine transpose_apply _ _ _ _ _ fun b => ?_
      fin_cases b <;> rfl
    refine shapeCast_apply _ _ _ _ ?_
    rw [Shape.rowMajor_val_three, Shape.rowMajor_val_two]
    show (5 * g.val + k.val) * 5 + m.val = (g.val * 5 + k.val) * 5 + m.val
    omega

/-- The column read at a row. -/
theorem pack_val (c : Dev nD) (n : ℕ) (hn : n < 856) : (V m c main_call0_v11 : Vec 𝔽 S856x1 .f32) (ix2 ⟨n, hn⟩ 0) = packed m c (ix1 ⟨n, hn⟩) := by
  rw [pack_eq]
  refine shapeCast_apply _ _ _ _ ?_
  rw [Shape.rowMajor_val_one, Shape.rowMajor_val_two]
  show n = n * 1 + 0
  omega

set_option maxHeartbeats 1000000 in
/-- The column holds the seven arguments where the kernel reads them. -/
theorem cols (c : Dev nD) : Cols (V m c main_call0_v11) (argsOf m c) where
  x := fun i t n hn e => by
    rw [pack_val]
    unfold packed
    refine (concatenate_apply_piece (t := S856) 0 _ _ (ix1 ⟨n, hn⟩) 0 (by show 0 < 8; decide) S640 _ rfl rfl 0 rfl (ix1 ⟨n - 0, by omega⟩)
      (fun b hb => absurd (Subsingleton.elim _ _) hb) (show 0 + (n - 0) = n by omega)).trans ?_
    exact S640_val _ i t _ _ (by omega)
  wtime := fun i k n hn e => by
    rw [pack_val]
    unfold packed
    refine (concatenate_apply_piece (t := S856) 0 _ _ (ix1 ⟨n, hn⟩) 1 (by show 1 < 8; decide) S25 _ rfl rfl 640 rfl (ix1 ⟨n - 640, by omega⟩)
      (fun b hb => absurd (Subsingleton.elim _ _) hb) (show 640 + (n - 640) = n by omega)).trans ?_
    exact shapeCast_apply _ _ _ (ix2 i k) (by rw [Shape.rowMajor_val_two, Shape.rowMajor_val_one]; show i.val * 5 + k.val = n - 640; omega)
  wih := fun g i k n hn e => by
    rw [pack_val]
    unfold packed
    refine (concatenate_apply_piece (t := S856) 0 _ _ (ix1 ⟨n, hn⟩) 2 (by show 2 < 8; decide) S75 _ rfl rfl 665 rfl (ix1 ⟨n - 665, by omega⟩)
      (fun b hb => absurd (Subsingleton.elim _ _) hb) (show 665 + (n - 665) = n by omega)).trans ?_
    exact S75_val _ g i k _ _ (by omega)
  whh := fun g i k n hn e => by
    rw [pack_val]
    unfold packed
    refine (concatenate_apply_piece (t := S856) 0 _ _ (ix1 ⟨n, hn⟩) 3 (by show 3 < 8; decide) S75 _ rfl rfl 740 rfl (ix1 ⟨n - 740, by omega⟩)
      (fun b hb => absurd (Subsingleton.elim _ _) hb) (show 740 + (n - 740) = n by omega)).trans ?_
    exact S75_val _ g i k _ _ (by omega)
  btime := fun k n hn e => by
    rw [pack_val]
    unfold packed
    refine (concatenate_apply_piece (t := S856) 0 _ _ (ix1 ⟨n, hn⟩) 4 (by show 4 < 8; decide) S5 _ rfl rfl 815 rfl (ix1 ⟨n - 815, by omega⟩)
      (fun b hb => absurd (Subsingleton.elim _ _) hb) (show 815 + (n - 815) = n by omega)).trans ?_
    exact congrArg (m ((c : Thread nD τ).loc main_arg5)) (congrArg ix1 (Fin.ext (show n - 815 = k.val by omega)))
  bih := fun g k n hn e => by
    rw [pack_val]
    unfold packed
    refine (concatenate_apply_piece (t := S856) 0 _ _ (ix1 ⟨n, hn⟩) 5 (by show 5 < 8; decide) S15 _ rfl rfl 820 rfl (ix1 ⟨n - 820, by omega⟩)
      (fun b hb => absurd (Subsingleton.elim _ _) hb) (show 820 + (n - 820) = n by omega)).trans ?_
    exact congrArg (m ((c : Thread nD τ).loc main_arg8)) (congrArg ix1 (Fin.ext (show n - 820 = 5 * g.val + k.val by omega)))
  bhh := fun g k n hn e => by
    rw [pack_val]
    unfold packed
    refine (concatenate_apply_piece (t := S856) 0 _ _ (ix1 ⟨n, hn⟩) 6 (by show 6 < 8; decide) S15 _ rfl rfl 835 rfl (ix1 ⟨n - 835, by omega⟩)
      (fun b hb => absurd (Subsingleton.elim _ _) hb) (show 835 + (n - 835) = n by omega)).trans ?_
    exact congrArg (m ((c : Thread nD τ).loc main_arg9)) (congrArg ix1 (Fin.ext (show n - 835 = 5 * g.val + k.val by omega)))

end Cert.KernelIdeal.Hand
end
-- ==== Proof.KernelIdealPay.lean ====
module

public import proofs.«01_k».proof.Proof.KernelIdealCols

@[expose] public section

set_option maxRecDepth 16384

noncomputable section

namespace Cert.KernelIdeal.Hand

open Idealize.ShloMosaic Idealize.ShloMosaic.TcCoe Idealize.ShloMosaic.Tactic
open Cert.KernelIdeal Cert.KernelIdeal.Gen

local notation "𝔽" => Idealize.ShloMosaic.Ideal

set_option maxHeartbeats 1000000 in
/-- Four blocks' products added to the accumulated row. -/
theorem pay1_val (ca cb cc cd : Vec 𝔽 S1x1024 .f32) (acc : Vec 𝔽 S1x640 .f32) (wa wb wc wd : Vec 𝔽 S1024x640 .f32) (o : Fin 640) :
    k0_pay1 (F := 𝔽) ca cb cc cd acc wa wb wc wd (ix2 0 o)
      = acc (ix2 0 o) + ((((∑ k : Fin 1024, ca (ix2 0 k) * wa (ix2 k o)) + ∑ k : Fin 1024, cb (ix2 0 k) * wb (ix2 k o))
        + ∑ k : Fin 1024, cc (ix2 0 k) * wc (ix2 k o)) + ∑ k : Fin 1024, cd (ix2 0 k) * wd (ix2 k o)) := by
  pointwise [k0_pay1]

/-- The row test, for a row of the block. -/
theorem row_test : ∀ k : Fin 1024, IntOp.cmpi CmpIPredicate.slt (BitVec.ofNat 32 k.val) 105#32 = if k.val < 105 then 1#1 else 0#1 := by
  decide +kernel

set_option maxHeartbeats 1000000 in
/-- Three blocks' products added to the accumulated row, the third block's rows from 105 on read as zero. -/
theorem pay2_val (ca cb cc : Vec 𝔽 S1x1024 .f32) (acc : Vec 𝔽 S1x640 .f32) (wa wb wc : Vec 𝔽 S1024x640 .f32) (o : Fin 640) :
    k0_pay2 (F := 𝔽) ca cb cc wc acc wa wb (ix2 0 o)
      = acc (ix2 0 o) + (((∑ k : Fin 1024, ca (ix2 0 k) * wa (ix2 k o)) + ∑ k : Fin 1024, cb (ix2 0 k) * wb (ix2 k o))
        + ∑ k : Fin 1024, if k.val < 105 then cc (ix2 0 k) * wc (ix2 k o) else 0) := by
  have h : k0_pay2 (F := 𝔽) ca cb cc wc acc wa wb (ix2 0 o)
      = acc (ix2 0 o) + (((∑ k : Fin 1024, ca (ix2 0 k) * wa (ix2 k o)) + ∑ k : Fin 1024, cb (ix2 0 k) * wb (ix2 k o))
        + ∑ k : Fin 1024, Scalar.select (IntOp.cmpi CmpIPredicate.slt (BitVec.ofNat 32 k.val) 105#32) (cc (ix2 0 k) * wc (ix2 k o)) 0) := by
    pointwise [k0_pay2]
  rw [h, show (∑ k : Fin 1024, Scalar.select (IntOp.cmpi CmpIPredicate.slt (BitVec.ofNat 32 k.val) 105#32) (cc (ix2 0 k) * wc (ix2 k o)) 0)
      = ∑ k : Fin 1024, if k.val < 105 then cc (ix2 0 k) * wc (ix2 k o) else 0 from Finset.sum_congr rfl fun k _ => by
    rw [row_test]; split <;> rfl]

set_option maxHeartbeats 1000000 in
/-- The accumulated row, biased and cut at zero. -/
theorem pay3_val (acc : Vec 𝔽 S1x640 .f32) (b : Vec 𝔽 S640 .f32) (o : Fin 640) :
    k0_pay3 (F := 𝔽) acc b (ix2 0 o) = max (acc (ix2 0 o) + b (ix1 o)) 0 := by
  pointwise [k0_pay3]

set_option maxHeartbeats 1000000 in
/-- The result's row 0 is cut out of the accumulated row, biased and cut at zero. -/
theorem pay4_val (acc : Vec 𝔽 S1x640 .f32) (b : Vec 𝔽 S640 .f32) (f : Fin 128) :
    k0_pay4 (F := 𝔽) acc b (ix2 0 f) = max (acc (ix2 0 ⟨128 * 0 + f.val, by omega⟩) + b (ix1 ⟨128 * 0 + f.val, by omega⟩)) 0 := by
  pointwise [k0_pay4, k0_pay3]

set_option maxHeartbeats 1000000 in
/-- The result's row 1 is cut out of the accumulated row, biased and cut at zero. -/
theorem pay5_val (acc : Vec 𝔽 S1x640 .f32) (b : Vec 𝔽 S640 .f32) (f : Fin 128) :
    k0_pay5 (F := 𝔽) acc b (ix2 0 f) = max (acc (ix2 0 ⟨128 * 1 + f.val, by omega⟩) + b (ix1 ⟨128 * 1 + f.val, by omega⟩)) 0 := by
  pointwise [k0_pay5, k0_pay3]

set_option maxHeartbeats 1000000 in
/-- The result's row 2 is cut out of the accumulated row, biased and cut at zero. -/
theorem pay6_val (acc : Vec 𝔽 S1x640 .f32) (b : Vec 𝔽 S640 .f32) (f : Fin 128) :
    k0_pay6 (F := 𝔽) acc b (ix2 0 f) = max (acc (ix2 0 ⟨128 * 2 + f.val, by omega⟩) + b (ix1 ⟨128 * 2 + f.val, by omega⟩)) 0 := by
  pointwise [k0_pay6, k0_pay3]

set_option maxHeartbeats 1000000 in
/-- The result's row 3 is cut out of the accumulated row, biased and cut at zero. -/
theorem pay7_val (acc : Vec 𝔽 S1x640 .f32) (b : Vec 𝔽 S640 .f32) (f : Fin 128) :
    k0_pay7 (F := 𝔽) acc b (ix2 0 f) = max (acc (ix2 0 ⟨128 * 3 + f.val, by omega⟩) + b (ix1 ⟨128 * 3 + f.val, by omega⟩)) 0 := by
  pointwise [k0_pay7, k0_pay3]

set_option maxHeartbeats 1000000 in
/-- The result's row 4 is cut out of the accumulated row, biased and cut at zero. -/
theorem pay8_val (acc : Vec 𝔽 S1x640 .f32) (b : Vec 𝔽 S640 .f32) (f : Fin 128) :
    k0_pay8 (F := 𝔽) acc b (ix2 0 f) = max (acc (ix2 0 ⟨128 * 4 + f.val, by omega⟩) + b (ix1 ⟨128 * 4 + f.val, by omega⟩)) 0 := by
  pointwise [k0_pay8, k0_pay3]

set_option maxHeartbeats 1000000 in
/-- The temporal adjacency's row: the logistic of the column sums. -/
theorem pay9_val (w : Vec 𝔽 S5x5 .f32) (v : Fin 5) :
    k0_pay9 (F := 𝔽) w (ix2 0 v) = Ideal.logistic (∑ k : Fin 5, w (ix2 k v)) := by
  pointwise [k0_pay9]

set_option maxHeartbeats 1000000 in
/-- The static adjacency's row: the logistic of the column sums. -/
theorem pay10_val (w : Vec 𝔽 S128x128 .f32) (v : Fin 128) :
    k0_pay10 (F := 𝔽) w (ix2 0 v) = Ideal.logistic (∑ k : Fin 128, w (ix2 k v)) := by
  pointwise [k0_pay10]

set_option maxHeartbeats 1000000 in
/-- The static adjacency's row, laid out as a column. -/
theorem pay11_val (w : Vec 𝔽 S128x128 .f32) (v : Fin 128) :
    k0_pay11 (F := 𝔽) w (ix2 v 0) = Ideal.logistic (∑ k : Fin 128, w (ix2 k v)) := by
  pointwise [k0_pay11]

set_option maxHeartbeats 1000000 in
/-- The temporal features of a row, from the readings, the spectrum and the weights. -/
theorem pay209_val (x1 x2 : Vec 𝔽 S5x128 .f32) (w1 : Vec 𝔽 S128x128 .f32) (f : Vec 𝔽 S5x128 .f32) (w2 : Vec 𝔽 S128x128 .f32)
    (b : Vec 𝔽 S128 .f32) (ta : Vec 𝔽 S5x5 .f32) (wt : Vec 𝔽 S128x16 .f32) (c : Fin 16) :
    k0_pay209 (F := 𝔽) x1 x2 w1 f w2 b ta wt (ix2 0 c)
      = ∑ w : Fin 5, Ideal.logistic (∑ k : Fin 5, ta (ix2 k w)) * ∑ g : Fin 128,
          max (((∑ k : Fin 128, x2 (ix2 w k) * w1 (ix2 k g)) + ∑ k : Fin 128, f (ix2 w k) * w2 (ix2 k g)) + b (ix1 g)) 0
            * wt (ix2 g c) := by
  pointwise [k0_pay209]
  simp only [ne_eq, not_true_eq_false, if_false]

set_option maxHeartbeats 1000000 in
/-- The spatial features of a row, from the weighted states. -/
theorem pay210_val (s : Vec 𝔽 S5x1 .f32) (w : Vec 𝔽 S5x16 .f32) (c : Fin 16) :
    k0_pay210 (F := 𝔽) s w (ix2 0 c) = ∑ k : Fin 5, s (ix2 k 0) * w (ix2 k c) := by
  pointwise [k0_pay210]

end Cert.KernelIdeal.Hand
end
-- ==== Proof.KernelIdealCat.lean ====
module

public import proofs.«01_k».proof.Proof.KernelIdealPay

@[expose] public section

set_option maxRecDepth 16384

noncomputable section

namespace Cert.Spec

open Idealize.ShloMosaic

/-- The last product's rows from `lo` on. -/
def part (a : Args) (s : Fin 16 → EReal) (lo : ℕ) (o : Fin 640) : EReal := ∑ n ∈ Finset.Ico lo 18537, cat a s n * wf a n o

/-- All of its rows are the whole product. -/
theorem part_zero (a : Args) (s : Fin 16 → EReal) (o : Fin 640) : part a s 0 o = lin a s o := by
  unfold part lin; rw [Finset.range_eq_Ico]

/-- A sum over a block's rows, as a sum over an interval. -/
theorem sum_block (g : ℕ → EReal) (lo n : ℕ) : ∑ k : Fin n, g (lo + k.val) = ∑ j ∈ Finset.Ico lo (lo + n), g j := by
  rw [Finset.sum_Ico_eq_sum_range, Nat.add_sub_cancel_left, ← Fin.sum_univ_eq_sum_range (fun k => g (lo + k)) n]

/-- One more block of rows. -/
theorem part_add (a : Args) (s : Fin 16 → EReal) (lo n : ℕ) (h : lo + n ≤ 18537) (o : Fin 640) :
    (∑ k : Fin n, cat a s (lo + k.val) * wf a (lo + k.val) o) + part a s (lo + n) o = part a s lo o := by
  rw [sum_block (fun j => cat a s j * wf a j o)]
  exact Finset.sum_Ico_consecutive _ (Nat.le_add_right _ _) h

/-- A sum over a block of which only the first `n` rows count. -/
theorem sum_first (g : ℕ → EReal) (n N : ℕ) (h : n ≤ N) : (∑ k : Fin N, if k.val < n then g k.val else 0) = ∑ k : Fin n, g k.val := by
  rw [Fin.sum_univ_eq_sum_range (fun k => if k < n then g k else 0) N, Fin.sum_univ_eq_sum_range g n, ← Finset.sum_filter]
  congr 1
  ext k
  simp only [Finset.mem_filter, Finset.mem_range]
  omega

end Cert.Spec

namespace Cert.KernelIdeal.Hand

open Idealize.ShloMosaic Idealize.ShloMosaic.TcCoe Idealize.ShloMosaic.Tactic
open Cert.KernelIdeal Cert.KernelIdeal.Gen

local notation "𝔽" => Idealize.ShloMosaic.Ideal

variable (a : Spec.Args) (s : Fin 16 → EReal)

/-- A point with four whole blocks carries the product on by their rows. -/
theorem acc_full (lo : ℕ) (hlo : lo + 4096 ≤ 18537) (ca cb cc cd : Vec 𝔽 S1x1024 .f32) (acc : Vec 𝔽 S1x640 .f32)
    (wa wb wc wd : Vec 𝔽 S1024x640 .f32) (o : Fin 640)
    (h0 : ∀ k : Fin 1024, ca (ix2 0 k) = Spec.cat a s (lo + k.val)) (h1 : ∀ k : Fin 1024, cb (ix2 0 k) = Spec.cat a s (lo + 1024 + k.val))
    (h2 : ∀ k : Fin 1024, cc (ix2 0 k) = Spec.cat a s (lo + 2048 + k.val)) (h3 : ∀ k : Fin 1024, cd (ix2 0 k) = Spec.cat a s (lo + 3072 + k.val))
    (w0 : ∀ k : Fin 1024, wa (ix2 k o) = Spec.wf a (lo + k.val) o) (w1 : ∀ k : Fin 1024, wb (ix2 k o) = Spec.wf a (lo + 1024 + k.val) o)
    (w2 : ∀ k : Fin 1024, wc (ix2 k o) = Spec.wf a (lo + 2048 + k.val) o) (w3 : ∀ k : Fin 1024, wd (ix2 k o) = Spec.wf a (lo + 3072 + k.val) o)
    (hacc : acc (ix2 0 o) = Spec.part a s (lo + 4096) o) :
    k0_pay1 (F := 𝔽) ca cb cc cd acc wa wb wc wd (ix2 0 o) = Spec.part a s lo o := by
  rw [pay1_val, hacc]
  simp only [h0, h1, h2, h3, w0, w1, w2, w3]
  rw [← Spec.part_add a s lo 1024 (by omega), ← Spec.part_add a s (lo + 1024) 1024 (by omega),
    ← Spec.part_add a s (lo + 1024 + 1024) 1024 (by omega), ← Spec.part_add a s (lo + 1024 + 1024 + 1024) 1024 (by omega)]
  rw [add_comm (Spec.part a s (lo + 4096) o), add_assoc, add_assoc, add_assoc]

/-- The first point makes the product's last rows, those of two whole blocks and of 105 rows more. -/
theorem acc_first (ca cb cc : Vec 𝔽 S1x1024 .f32) (acc : Vec 𝔽 S1x640 .f32) (wa wb wc : Vec 𝔽 S1024x640 .f32) (o : Fin 640)
    (h0 : ∀ k : Fin 1024, ca (ix2 0 k) = Spec.cat a s (16384 + k.val)) (h1 : ∀ k : Fin 1024, cb (ix2 0 k) = Spec.cat a s (17408 + k.val))
    (h2 : ∀ k : Fin 1024, cc (ix2 0 k) = Spec.cat a s (18432 + k.val))
    (w0 : ∀ k : Fin 1024, wa (ix2 k o) = Spec.wf a (16384 + k.val) o) (w1 : ∀ k : Fin 1024, wb (ix2 k o) = Spec.wf a (17408 + k.val) o)
    (w2 : ∀ k : Fin 1024, k.val < 105 → wc (ix2 k o) = Spec.wf a (18432 + k.val) o)
    (hacc : acc (ix2 0 o) = 0) :
    k0_pay2 (F := 𝔽) ca cb cc wc acc wa wb (ix2 0 o) = Spec.part a s 16384 o := by
  rw [pay2_val, hacc]
  have e : (∑ k : Fin 1024, if k.val < 105 then cc (ix2 0 k) * wc (ix2 k o) else 0)
      = ∑ k : Fin 105, Spec.cat a s (18432 + k.val) * Spec.wf a (18432 + k.val) o := by
    refine Eq.trans (Finset.sum_congr rfl fun k _ => ?_) (Spec.sum_first (fun j => Spec.cat a s (18432 + j) * Spec.wf a (18432 + j) o) 105 1024 (by norm_num))
    by_cases h : k.val < 105
    · rw [if_pos h, if_pos h, h2, w2 k h]
    · rw [if_neg h, if_neg h]
  rw [e]
  simp only [h0, h1, w0, w1]
  rw [← Spec.part_add a s 16384 1024 (by omega), ← Spec.part_add a s 17408 1024 (by omega), ← Spec.part_add a s 18432 105 (by omega)]
  rw [show Spec.part a s (18432 + 105) o = 0 from by unfold Spec.part; simp, zero_add, add_zero, add_assoc]

/-! ## The row of features, piece by piece -/

/-- Columns `lo` to `hi` of the row, and those from `b` on, are `G`'s as a list of stores leaves them. -/
def Holds (v : View sig .tc .vmem S1x20480 .f32) (f : v.ty.Contents (Elt 𝔽)) (G : ℕ → EReal) (lo b hi : ℕ)
    (L : List (View.Piece (Elt 𝔽) S1x20480 .f32)) : Prop :=
  ∀ n (h : n < 20480), lo ≤ n → n < hi ∨ b ≤ n → v.read (Elt 𝔽) (v.writes (Elt 𝔽) f L) (ix2 0 ⟨n, h⟩) = G n

variable {v : View sig .tc .vmem S1x20480 .f32} {f : v.ty.Contents (Elt 𝔽)} {G : ℕ → EReal}

/-- Before any store. -/
theorem Holds.base {lo b : ℕ} (hb : ∀ n (h : n < 20480), b ≤ n → v.read (Elt 𝔽) f (ix2 0 ⟨n, h⟩) = G n) : Holds v f G lo b lo [] :=
  fun n h h0 h1 => hb n h (by omega)

/-- A store of the next columns carries it on. -/
theorem Holds.cons {lo b hi : ℕ} {L} {o w : ℕ} {hr} {p : (Rect.unit (s := S1x20480) ![0, o] ![1, w] hr).shape.Idx → Elt 𝔽 .f32}
    (hhi : hi = o + w ∧ hi ≤ b) (hp : ∀ k : Fin w, p (ix2 0 k) = G (o + k.val)) (hL : Holds v f G lo b o L) :
    Holds v f G lo b hi (⟨Rect.unit (s := S1x20480) ![0, o] ![1, w] hr, p⟩ :: L) := by
  intro n h h0 h1
  by_cases hn : n < o
  · rw [View.read_writes_cons_unit_of_not_mem v f hr p L _ rfl 1 (Or.inl hn)]
    exact hL n h h0 (Or.inl hn)
  by_cases hb : b ≤ n
  · rw [View.read_writes_cons_unit_of_not_mem v f hr p L _ rfl 1 (Or.inr (by show o + w ≤ n; omega))]
    exact hL n h h0 (Or.inr hb)
  · rw [View.read_writes_cons_unit_of_mem v f hr p L (ix2 0 ⟨n, h⟩) (ix2 0 ⟨n - o, by omega⟩) rfl (fun b => ?_)]
    · rw [hp]; exact congrArg G (by show o + (n - o) = n; omega)
    · fin_cases b
      · rfl
      · show n = o + (n - o); omega

/-- The first rows of the result, as a list of stores leaves them, are `R`'s. -/
def Rows (v : View sig .tc .vmem S5x128 .f32) (f : v.ty.Contents (Elt 𝔽)) (R : Fin 5 → Fin 128 → EReal) (hi : ℕ)
    (L : List (View.Piece (Elt 𝔽) S5x128 .f32)) : Prop :=
  ∀ (r : Fin 5) (c : Fin 128), r.val < hi → v.read (Elt 𝔽) (v.writes (Elt 𝔽) f L) (ix2 r c) = R r c

/-- No rows. -/
theorem Rows.base {v : View sig .tc .vmem S5x128 .f32} {f : v.ty.Contents (Elt 𝔽)} {R : Fin 5 → Fin 128 → EReal} {L} :
    Rows v f R 0 L := fun r c h => absurd h (Nat.not_lt_zero _)

/-- A store of the next row carries it on. -/
theorem Rows.cons {v : View sig .tc .vmem S5x128 .f32} {f : v.ty.Contents (Elt 𝔽)} {R : Fin 5 → Fin 128 → EReal} {L}
    {o hi : ℕ} {hr} {p : (Rect.unit (s := S5x128) ![o, 0] ![1, 128] hr).shape.Idx → Elt 𝔽 .f32} (ho : o < 5)
    (hhi : hi = o + 1) (hp : ∀ c : Fin 128, p (ix2 0 c) = R ⟨o, ho⟩ c) (hL : Rows v f R o L) :
    Rows v f R hi (⟨Rect.unit (s := S5x128) ![o, 0] ![1, 128] hr, p⟩ :: L) := by
  intro r c h
  by_cases hn : r.val < o
  · rw [View.read_writes_cons_unit_of_not_mem v f hr p L _ rfl 0 (Or.inl hn)]
    exact hL r c hn
  · rw [View.read_writes_cons_unit_of_mem v f hr p L (ix2 r c) (ix2 0 c) rfl (fun b => ?_), hp]
    · exact congrArg (fun q => R q c) (Fin.ext (by show o = r.val; omega))
    · fin_cases b
      · show r.val = o + 0; omega
      · show c.val = 0 + c.val; omega

/-- The offset of a point's second block in the row of features. -/
theorem off4_1 (i : grid0.Coords) : k0_off4 i 1#32 = ![0, 17408 - 4096 * (i 0).val] := k0_off4_eq i 0
/-- The offset of the third block. -/
theorem off4_2 (i : grid0.Coords) : k0_off4 i 2#32 = ![0, 18432 - 4096 * (i 0).val] := k0_off4_eq i 1
/-- The offset of the fourth block. -/
theorem off4_3 (i : grid0.Coords) : k0_off4 i 3#32 = ![0, 19456 - 4096 * (i 0).val] := k0_off4_eq i 2

/-- The row's columns of temporal features, by their place in a group of sixteen. -/
theorem cat_tf (o : ℕ) (ho : o + 16 ≤ 80 ∧ o % 16 = 0) (k : Fin 16) : Spec.cat a s (o + k.val) = Spec.tf a k := by
  have := k.isLt
  unfold Spec.cat
  rw [if_pos (by omega)]
  exact congrArg _ (Fin.ext (by show (o + k.val) % 16 = k.val; omega))

/-- The row's columns of spatial features, by their place in a group of sixteen. -/
theorem cat_sf (o : ℕ) (ho : 80 ≤ o ∧ o + 16 ≤ 2128 ∧ o % 16 = 0) (k : Fin 16) : Spec.cat a s (o + k.val) = s k := by
  have := k.isLt
  unfold Spec.cat
  rw [if_neg (by omega), if_pos (by omega)]
  exact congrArg _ (Fin.ext (by show (o + k.val - 80) % 16 = k.val; omega))

/-- The row's columns of the temporal adjacency, by their place in a group of five. -/
theorem cat_vt (o : ℕ) (ho : 2128 ≤ o ∧ o + 5 ≤ 2153 ∧ (o - 2128) % 5 = 0) (k : Fin 5) : Spec.cat a s (o + k.val) = Spec.vt a k := by
  have := k.isLt
  unfold Spec.cat
  rw [if_neg (by omega), if_neg (by omega), if_pos (by omega)]
  exact congrArg _ (Fin.ext (by show (o + k.val - 2128) % 5 = k.val; omega))

/-- The row's columns of the static adjacency, by their place in a group of 128. -/
theorem cat_vs (o : ℕ) (ho : 2153 ≤ o ∧ o + 128 ≤ 18537 ∧ (o - 2153) % 128 = 0) (k : Fin 128) :
    Spec.cat a s (o + k.val) = Spec.vs a k := by
  have := k.isLt
  unfold Spec.cat
  rw [if_neg (by omega), if_neg (by omega), if_neg (by omega), if_pos (by omega)]
  exact congrArg _ (Fin.ext (by show (o + k.val - 2153) % 128 = k.val; omega))

/-- Past its end the row is zero. -/
theorem cat_end (o : ℕ) (ho : 18537 ≤ o) : Spec.cat a s o = 0 := by
  unfold Spec.cat
  rw [if_neg (by omega), if_neg (by omega), if_neg (by omega), if_neg (by omega)]

end Cert.KernelIdeal.Hand
end
-- ==== Proof.KernelIdealValA.lean ====
module

public import proofs.«01_k».proof.Proof.KernelIdealCat
public import proofs.«01_k».proof.Proof.KernelIdealRunA

@[expose] public section

set_option maxRecDepth 16384

noncomputable section

namespace Cert.KernelIdeal.Hand

open Idealize.ShloMosaic Idealize.ShloMosaic.TcCoe Idealize.ShloMosaic.Tactic
open Cert.KernelIdeal Cert.KernelIdeal.Gen

local notation "𝔽" => Idealize.ShloMosaic.Ideal

set_option maxHeartbeats 8000000 in
/-- The first point's stores into the row of features are the row's from column 2128 on. -/
theorem runA_cat (a : Spec.Args) (s : Fin 16 → EReal) (c : Dev nD) (i : grid0.Coords) (arg1 : Memref sig .tc .vmem S5x128 .f32) (harg1 : arg1.IsWhole) (arg2 : Memref sig .tc .vmem S856x1 .f32) (harg2 : arg2.IsWhole) (arg3 : Memref sig .tc .vmem S5x128 .f32) (harg3 : arg3.IsWhole) (arg4 : Memref sig .tc .vmem S256x128 .f32) (harg4 : arg4.IsWhole) (arg5 : Memref sig .tc .vmem S128 .f32) (harg5 : arg5.IsWhole) (arg6 : Memref sig .tc .vmem S5x5 .f32) (harg6 : arg6.IsWhole) (arg7 : Memref sig .tc .vmem S128x16 .f32) (harg7 : arg7.IsWhole) (arg8 : Memref sig .tc .vmem S128x128 .f32) (harg8 : arg8.IsWhole) (arg9 : Memref sig .tc .vmem S5x16 .f32) (harg9 : arg9.IsWhole) (arg10 : Memref sig .tc .vmem S1024x640 .f32) (harg10 : arg10.IsWhole) (arg11 : Memref sig .tc .vmem S1024x640 .f32) (harg11 : arg11.IsWhole) (arg12 : Memref sig .tc .vmem S1024x640 .f32) (harg12 : arg12.IsWhole) (arg13 : Memref sig .tc .vmem S1024x640 .f32) (harg13 : arg13.IsWhole) (arg14 : Memref sig .tc .vmem S640 .f32) (harg14 : arg14.IsWhole) (arg15 : Memref sig .tc .vmem S5x128 .f32) (harg15 : arg15.IsWhole) (arg16 : Memref sig .tc .vmem S1x20480 .f32) (harg16 : arg16.IsWhole) (arg17 : Memref sig .tc .vmem S1x640 .f32) (harg17 : arg17.IsWhole) (arg18 : Memref sig .tc .vmem S128x1 .f32) (harg18 : arg18.IsWhole) (arg19 : Memref sig .tc .vmem S5x1 .f32) (harg19 : arg19.IsWhole) (arg20 : Memref sig .tc .vmem S5x1 .f32) (harg20 : arg20.IsWhole) (hc0 : cond0 i) (hc1 : cond1 i) (hc2 : ¬cond2 i) (hc3 : ¬cond3 i) (hc4 : cond4 i) (hc5 : ¬cond5 i)
    (x0 : Vec 𝔽 S5x128 .f32) (x1 : Vec 𝔽 S856x1 .f32) (x2 : Vec 𝔽 S5x128 .f32) (x3 : Vec 𝔽 S256x128 .f32) (x4 : Vec 𝔽 S128 .f32) (x5 : Vec 𝔽 S5x5 .f32) (x6 : Vec 𝔽 S128x16 .f32) (x7 : Vec 𝔽 S128x128 .f32) (x8 : Vec 𝔽 S5x16 .f32) (x9 : Vec 𝔽 S1024x640 .f32) (x10 : Vec 𝔽 S1024x640 .f32) (x11 : Vec 𝔽 S1024x640 .f32) (x12 : Vec 𝔽 S1024x640 .f32) (x13 : Vec 𝔽 S640 .f32) (x14 : Vec 𝔽 S5x128 .f32) (x15 : Vec 𝔽 S1x20480 .f32) (x16 : Vec 𝔽 S1x640 .f32) (x17 : Vec 𝔽 S128x1 .f32) (x18 : Vec 𝔽 S5x1 .f32) (x19 : Vec 𝔽 S5x1 .f32) (e5 : x5 = a.Wtadj) (e7 : x7 = a.Wsadj) :
    Holds arg16.view (harg16.unread x15) (Spec.cat a s) 2128 20480 20480 (runA (F := 𝔽) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 x0 x1 x2 x3 x4 x5 x6 x7 x8 x9 x10 x11 x12 x13 x14 x15 x16 x17 x18 x19).1 := by
  have hV : ∀ q : Fin 128, runA.sl.r_1 (F := 𝔽) c arg8 harg8 x7 (ix2 0 q) = Spec.vs a q := fun q => by
    delta runA.sl.r_1
    rw [show View.readAt (Elt 𝔽) arg8.view (Rect.unit (s := S128x128) ![0, 0] S128x128.size inb_S128x128_S128x128_0_0).toLoadRect (harg8.unread x7) = a.Wsadj from
      ((View.readAt_full ..).trans (harg8.read_unread _)).trans e7, pay10_val]
    rfl
  have hV' : ∀ q : Fin 128, runA.sl.v78 (F := 𝔽) c arg8 harg8 x7 (ix2 0 q) = Spec.vs a q := fun q => by
    delta runA.sl.v78
    exact (congrFun (shapeCast_self (s := S1x128) _ _) _).trans (hV q)
  have hT : ∀ q : Fin 5, k0_pay9 (F := 𝔽) (View.readAt (Elt 𝔽) arg6.view (Rect.unit (s := S5x5) ![0, 0] ![5, 5] inb_S5x5_S5x5_0_0).toLoadRect (harg6.unread x5)) (ix2 0 q) = Spec.vt a q := fun q => by
    rw [show View.readAt (Elt 𝔽) arg6.view (Rect.unit (s := S5x5) ![0, 0] ![5, 5] inb_S5x5_S5x5_0_0).toLoadRect (harg6.unread x5) = a.Wtadj from
      ((View.readAt_full ..).trans (harg6.read_unread _)).trans e5, pay9_val]
    rfl
  have hT' : ∀ q : Fin 5, runA.sl.v69 (F := 𝔽) c arg6 harg6 x5 (ix2 0 q) = Spec.vt a q := fun q => by
    delta runA.sl.v69
    refine (congrFun (shapeCast_self (s := S1x5) _ _) _).trans ?_
    delta runA.sl.r
    exact hT q
  unfold runA
  dsimp only
  refine Holds.cons (by decide) (fun k => ?_) ?_
  · refine Eq.trans ?_ (cat_end a _ _ (by omega)).symm
    unfold k0_pay343
    refine (congrFun (shapeCast_self (s := S1x1943) _ _) _).trans ?_
    exact Ideal.ofBits_zero_f32
  refine Holds.cons (by decide) (fun k => ?_) ?_
  · refine Eq.trans ?_ (cat_vs a _ 18409 (by decide) k).symm
    unfold k0_pay342
    exact (congrFun (shapeCast_self (s := S1x128) _ _) _).trans (hV k)
  repeat
    refine Holds.cons (by decide) (fun k => (hV' k).trans (cat_vs a _ _ (by decide) k).symm) ?_
  refine Holds.cons (by decide) (fun k => (hT' k).trans (cat_vt a _ 2148 (by decide) k).symm) ?_
  refine Holds.cons (by decide) (fun k => (hT' k).trans (cat_vt a _ 2143 (by decide) k).symm) ?_
  refine Holds.cons (by decide) (fun k => (hT' k).trans (cat_vt a _ 2138 (by decide) k).symm) ?_
  refine Holds.cons (by decide) (fun k => ?_) ?_
  · refine Eq.trans ?_ (cat_vt a _ 2133 (by decide) k).symm
    unfold k0_pay15
    exact (congrFun (shapeCast_self (s := S1x5) _ _) _).trans (hT k)
  refine Holds.cons (by decide) (fun k => ?_) ?_
  · refine Eq.trans ?_ (cat_vt a _ 2128 (by decide) k).symm
    unfold k0_pay14
    exact (congrFun (shapeCast_self (s := S1x5) _ _) _).trans (hT k)
  exact Holds.base fun n h hn => absurd h (by omega)

set_option maxHeartbeats 4000000 in
/-- The first point leaves the station weights in their column. -/
theorem runA_vs (a : Spec.Args) (c : Dev nD) (i : grid0.Coords) (arg1 : Memref sig .tc .vmem S5x128 .f32) (harg1 : arg1.IsWhole) (arg2 : Memref sig .tc .vmem S856x1 .f32) (harg2 : arg2.IsWhole) (arg3 : Memref sig .tc .vmem S5x128 .f32) (harg3 : arg3.IsWhole) (arg4 : Memref sig .tc .vmem S256x128 .f32) (harg4 : arg4.IsWhole) (arg5 : Memref sig .tc .vmem S128 .f32) (harg5 : arg5.IsWhole) (arg6 : Memref sig .tc .vmem S5x5 .f32) (harg6 : arg6.IsWhole) (arg7 : Memref sig .tc .vmem S128x16 .f32) (harg7 : arg7.IsWhole) (arg8 : Memref sig .tc .vmem S128x128 .f32) (harg8 : arg8.IsWhole) (arg9 : Memref sig .tc .vmem S5x16 .f32) (harg9 : arg9.IsWhole) (arg10 : Memref sig .tc .vmem S1024x640 .f32) (harg10 : arg10.IsWhole) (arg11 : Memref sig .tc .vmem S1024x640 .f32) (harg11 : arg11.IsWhole) (arg12 : Memref sig .tc .vmem S1024x640 .f32) (harg12 : arg12.IsWhole) (arg13 : Memref sig .tc .vmem S1024x640 .f32) (harg13 : arg13.IsWhole) (arg14 : Memref sig .tc .vmem S640 .f32) (harg14 : arg14.IsWhole) (arg15 : Memref sig .tc .vmem S5x128 .f32) (harg15 : arg15.IsWhole) (arg16 : Memref sig .tc .vmem S1x20480 .f32) (harg16 : arg16.IsWhole) (arg17 : Memref sig .tc .vmem S1x640 .f32) (harg17 : arg17.IsWhole) (arg18 : Memref sig .tc .vmem S128x1 .f32) (harg18 : arg18.IsWhole) (arg19 : Memref sig .tc .vmem S5x1 .f32) (harg19 : arg19.IsWhole) (arg20 : Memref sig .tc .vmem S5x1 .f32) (harg20 : arg20.IsWhole) (hc0 : cond0 i) (hc1 : cond1 i) (hc2 : ¬cond2 i) (hc3 : ¬cond3 i) (hc4 : cond4 i) (hc5 : ¬cond5 i)
    (x0 : Vec 𝔽 S5x128 .f32) (x1 : Vec 𝔽 S856x1 .f32) (x2 : Vec 𝔽 S5x128 .f32) (x3 : Vec 𝔽 S256x128 .f32) (x4 : Vec 𝔽 S128 .f32) (x5 : Vec 𝔽 S5x5 .f32) (x6 : Vec 𝔽 S128x16 .f32) (x7 : Vec 𝔽 S128x128 .f32) (x8 : Vec 𝔽 S5x16 .f32) (x9 : Vec 𝔽 S1024x640 .f32) (x10 : Vec 𝔽 S1024x640 .f32) (x11 : Vec 𝔽 S1024x640 .f32) (x12 : Vec 𝔽 S1024x640 .f32) (x13 : Vec 𝔽 S640 .f32) (x14 : Vec 𝔽 S5x128 .f32) (x15 : Vec 𝔽 S1x20480 .f32) (x16 : Vec 𝔽 S1x640 .f32) (x17 : Vec 𝔽 S128x1 .f32) (x18 : Vec 𝔽 S5x1 .f32) (x19 : Vec 𝔽 S5x1 .f32) (e7 : x7 = a.Wsadj) (f : arg18.view.ty.Contents (Elt 𝔽)) (v : Fin 128) :
    arg18.view.read (Elt 𝔽) (arg18.view.writes (Elt 𝔽) f (runA (F := 𝔽) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 x0 x1 x2 x3 x4 x5 x6 x7 x8 x9 x10 x11 x12 x13 x14 x15 x16 x17 x18 x19).2.2.1) (ix2 v 0) = Spec.vs a v := by
  unfold runA
  dsimp only
  delta runA.sl.H17_1
  refine (congrFun (View.read_writes_full _ _ _ _ _) _).trans ?_
  rw [show View.readAt (Elt 𝔽) arg8.view (Rect.unit (s := S128x128) ![0, 0] S128x128.size inb_S128x128_S128x128_0_0).toLoadRect (harg8.unread x7) = a.Wsadj from
      ((View.readAt_full ..).trans (harg8.read_unread _)).trans e7, pay11_val]
  rfl

set_option maxHeartbeats 4000000 in
/-- The first point leaves the recurrence's state and its weighted sum after 32 steps. -/
theorem runA_state (a : Spec.Args) (c : Dev nD) (i : grid0.Coords) (arg1 : Memref sig .tc .vmem S5x128 .f32) (harg1 : arg1.IsWhole) (arg2 : Memref sig .tc .vmem S856x1 .f32) (harg2 : arg2.IsWhole) (arg3 : Memref sig .tc .vmem S5x128 .f32) (harg3 : arg3.IsWhole) (arg4 : Memref sig .tc .vmem S256x128 .f32) (harg4 : arg4.IsWhole) (arg5 : Memref sig .tc .vmem S128 .f32) (harg5 : arg5.IsWhole) (arg6 : Memref sig .tc .vmem S5x5 .f32) (harg6 : arg6.IsWhole) (arg7 : Memref sig .tc .vmem S128x16 .f32) (harg7 : arg7.IsWhole) (arg8 : Memref sig .tc .vmem S128x128 .f32) (harg8 : arg8.IsWhole) (arg9 : Memref sig .tc .vmem S5x16 .f32) (harg9 : arg9.IsWhole) (arg10 : Memref sig .tc .vmem S1024x640 .f32) (harg10 : arg10.IsWhole) (arg11 : Memref sig .tc .vmem S1024x640 .f32) (harg11 : arg11.IsWhole) (arg12 : Memref sig .tc .vmem S1024x640 .f32) (harg12 : arg12.IsWhole) (arg13 : Memref sig .tc .vmem S1024x640 .f32) (harg13 : arg13.IsWhole) (arg14 : Memref sig .tc .vmem S640 .f32) (harg14 : arg14.IsWhole) (arg15 : Memref sig .tc .vmem S5x128 .f32) (harg15 : arg15.IsWhole) (arg16 : Memref sig .tc .vmem S1x20480 .f32) (harg16 : arg16.IsWhole) (arg17 : Memref sig .tc .vmem S1x640 .f32) (harg17 : arg17.IsWhole) (arg18 : Memref sig .tc .vmem S128x1 .f32) (harg18 : arg18.IsWhole) (arg19 : Memref sig .tc .vmem S5x1 .f32) (harg19 : arg19.IsWhole) (arg20 : Memref sig .tc .vmem S5x1 .f32) (harg20 : arg20.IsWhole) (hc0 : cond0 i) (hc1 : cond1 i) (hc2 : ¬cond2 i) (hc3 : ¬cond3 i) (hc4 : cond4 i) (hc5 : ¬cond5 i)
    (x0 : Vec 𝔽 S5x128 .f32) (x1 : Vec 𝔽 S856x1 .f32) (x2 : Vec 𝔽 S5x128 .f32) (x3 : Vec 𝔽 S256x128 .f32) (x4 : Vec 𝔽 S128 .f32) (x5 : Vec 𝔽 S5x5 .f32) (x6 : Vec 𝔽 S128x16 .f32) (x7 : Vec 𝔽 S128x128 .f32) (x8 : Vec 𝔽 S5x16 .f32) (x9 : Vec 𝔽 S1024x640 .f32) (x10 : Vec 𝔽 S1024x640 .f32) (x11 : Vec 𝔽 S1024x640 .f32) (x12 : Vec 𝔽 S1024x640 .f32) (x13 : Vec 𝔽 S640 .f32) (x14 : Vec 𝔽 S5x128 .f32) (x15 : Vec 𝔽 S1x20480 .f32) (x16 : Vec 𝔽 S1x640 .f32) (x17 : Vec 𝔽 S128x1 .f32) (x18 : Vec 𝔽 S5x1 .f32) (x19 : Vec 𝔽 S5x1 .f32) (hi : (i 0).val = 0) (H : Cols x1 a) (e7 : x7 = a.Wsadj)
    (f3 : arg19.view.ty.Contents (Elt 𝔽)) (f4 : arg20.view.ty.Contents (Elt 𝔽)) :
    arg19.view.read (Elt 𝔽) (arg19.view.writes (Elt 𝔽) f3 (runA (F := 𝔽) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 x0 x1 x2 x3 x4 x5 x6 x7 x8 x9 x10 x11 x12 x13 x14 x15 x16 x17 x18 x19).2.2.2.1) = (carried a 32).1
    ∧ arg20.view.read (Elt 𝔽) (arg20.view.writes (Elt 𝔽) f4 (runA (F := 𝔽) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 x0 x1 x2 x3 x4 x5 x6 x7 x8 x9 x10 x11 x12 x13 x14 x15 x16 x17 x18 x19).2.2.2.2.1) = (carried a 32).2 := by
  unfold runA
  dsimp only
  rw [show runA.sl.v123 (F := 𝔽) c arg19 = (carried a 0).1 from by
      delta runA.sl.v123 runA.sl.H18_1
      refine (View.readCov_full _ _ _ _ _).trans ?_
      unfold k0_pay12
      refine (shapeCast_self _ _).trans ?_
      funext j
      exact Ideal.ofBits_zero_f32,
    show runA.sl.v124_1 (F := 𝔽) c arg20 = (carried a 0).2 from by
      delta runA.sl.v124_1 runA.sl.H19_1
      refine (View.readCov_full _ _ _ _ _).trans ?_
      unfold k0_pay13
      refine (shapeCast_self _ _).trans ?_
      funext j
      refine Eq.trans Ideal.ofBits_zero_f32 ?_
      show _ = Spec.sv a 0 (j 0)
      unfold Spec.sv
      exact (Finset.sum_range_zero _).symm,
    show runA.sl.v39 c arg2 harg2 x1 = (fun j => a.Wtime (ix2 0 (j 0))) from H.r_time harg2 0 640 rfl _ _,
    show runA.sl.v41 c arg2 harg2 x1 = (fun j => a.Wtime (ix2 1 (j 0))) from H.r_time harg2 1 645 rfl _ _,
    show runA.sl.v43 c arg2 harg2 x1 = (fun j => a.Wtime (ix2 2 (j 0))) from H.r_time harg2 2 650 rfl _ _,
    show runA.sl.v45 c arg2 harg2 x1 = (fun j => a.Wtime (ix2 3 (j 0))) from H.r_time harg2 3 655 rfl _ _,
    show runA.sl.v47 c arg2 harg2 x1 = (fun j => a.Wtime (ix2 4 (j 0))) from H.r_time harg2 4 660 rfl _ _,
    show runA.sl.v49 c arg2 harg2 x1 = (fun j => a.Wih (ix2 (Spec.gate 0 (j 0)) 0)) from H.r_ih harg2 0 0 665 rfl _ _,
    show runA.sl.v51 c arg2 harg2 x1 = (fun j => a.Wih (ix2 (Spec.gate 0 (j 0)) 1)) from H.r_ih harg2 0 1 670 rfl _ _,
    show runA.sl.v53 c arg2 harg2 x1 = (fun j => a.Wih (ix2 (Spec.gate 0 (j 0)) 2)) from H.r_ih harg2 0 2 675 rfl _ _,
    show runA.sl.v55 c arg2 harg2 x1 = (fun j => a.Wih (ix2 (Spec.gate 0 (j 0)) 3)) from H.r_ih harg2 0 3 680 rfl _ _,
    show runA.sl.v57 c arg2 harg2 x1 = (fun j => a.Wih (ix2 (Spec.gate 0 (j 0)) 4)) from H.r_ih harg2 0 4 685 rfl _ _,
    show runA.sl.v59 c arg2 harg2 x1 = (fun j => a.Wih (ix2 (Spec.gate 1 (j 0)) 0)) from H.r_ih harg2 1 0 690 rfl _ _,
    show runA.sl.v61 c arg2 harg2 x1 = (fun j => a.Wih (ix2 (Spec.gate 1 (j 0)) 1)) from H.r_ih harg2 1 1 695 rfl _ _,
    show runA.sl.v63 c arg2 harg2 x1 = (fun j => a.Wih (ix2 (Spec.gate 1 (j 0)) 2)) from H.r_ih harg2 1 2 700 rfl _ _,
    show runA.sl.v65 c arg2 harg2 x1 = (fun j => a.Wih (ix2 (Spec.gate 1 (j 0)) 3)) from H.r_ih harg2 1 3 705 rfl _ _,
    show runA.sl.v67 c arg2 harg2 x1 = (fun j => a.Wih (ix2 (Spec.gate 1 (j 0)) 4)) from H.r_ih harg2 1 4 710 rfl _ _,
    show runA.sl.v69_1 c arg2 harg2 x1 = (fun j => a.Wih (ix2 (Spec.gate 2 (j 0)) 0)) from H.r_ih harg2 2 0 715 rfl _ _,
    show runA.sl.v71_1 c arg2 harg2 x1 = (fun j => a.Wih (ix2 (Spec.gate 2 (j 0)) 1)) from H.r_ih harg2 2 1 720 rfl _ _,
    show runA.sl.v73_1 c arg2 harg2 x1 = (fun j => a.Wih (ix2 (Spec.gate 2 (j 0)) 2)) from H.r_ih harg2 2 2 725 rfl _ _,
    show runA.sl.v75 c arg2 harg2 x1 = (fun j => a.Wih (ix2 (Spec.gate 2 (j 0)) 3)) from H.r_ih harg2 2 3 730 rfl _ _,
    show runA.sl.v77_1 c arg2 harg2 x1 = (fun j => a.Wih (ix2 (Spec.gate 2 (j 0)) 4)) from H.r_ih harg2 2 4 735 rfl _ _,
    show runA.sl.v79_1 c arg2 harg2 x1 = (fun j => a.Whh (ix2 (Spec.gate 0 (j 0)) 0)) from H.r_hh harg2 0 0 740 rfl _ _,
    show runA.sl.v81 c arg2 harg2 x1 = (fun j => a.Whh (ix2 (Spec.gate 0 (j 0)) 1)) from H.r_hh harg2 0 1 745 rfl _ _,
    show runA.sl.v83_1 c arg2 harg2 x1 = (fun j => a.Whh (ix2 (Spec.gate 0 (j 0)) 2)) from H.r_hh harg2 0 2 750 rfl _ _,
    show runA.sl.v85_1 c arg2 harg2 x1 = (fun j => a.Whh (ix2 (Spec.gate 0 (j 0)) 3)) from H.r_hh harg2 0 3 755 rfl _ _,
    show runA.sl.v87 c arg2 harg2 x1 = (fun j => a.Whh (ix2 (Spec.gate 0 (j 0)) 4)) from H.r_hh harg2 0 4 760 rfl _ _,
    show runA.sl.v89_1 c arg2 harg2 x1 = (fun j => a.Whh (ix2 (Spec.gate 1 (j 0)) 0)) from H.r_hh harg2 1 0 765 rfl _ _,
    show runA.sl.v91_1 c arg2 harg2 x1 = (fun j => a.Whh (ix2 (Spec.gate 1 (j 0)) 1)) from H.r_hh harg2 1 1 770 rfl _ _,
    show runA.sl.v93 c arg2 harg2 x1 = (fun j => a.Whh (ix2 (Spec.gate 1 (j 0)) 2)) from H.r_hh harg2 1 2 775 rfl _ _,
    show runA.sl.v95_1 c arg2 harg2 x1 = (fun j => a.Whh (ix2 (Spec.gate 1 (j 0)) 3)) from H.r_hh harg2 1 3 780 rfl _ _,
    show runA.sl.v97_1 c arg2 harg2 x1 = (fun j => a.Whh (ix2 (Spec.gate 1 (j 0)) 4)) from H.r_hh harg2 1 4 785 rfl _ _,
    show runA.sl.v99 c arg2 harg2 x1 = (fun j => a.Whh (ix2 (Spec.gate 2 (j 0)) 0)) from H.r_hh harg2 2 0 790 rfl _ _,
    show runA.sl.v101_1 c arg2 harg2 x1 = (fun j => a.Whh (ix2 (Spec.gate 2 (j 0)) 1)) from H.r_hh harg2 2 1 795 rfl _ _,
    show runA.sl.v103_1 c arg2 harg2 x1 = (fun j => a.Whh (ix2 (Spec.gate 2 (j 0)) 2)) from H.r_hh harg2 2 2 800 rfl _ _,
    show runA.sl.v105 c arg2 harg2 x1 = (fun j => a.Whh (ix2 (Spec.gate 2 (j 0)) 3)) from H.r_hh harg2 2 3 805 rfl _ _,
    show runA.sl.v107_1 c arg2 harg2 x1 = (fun j => a.Whh (ix2 (Spec.gate 2 (j 0)) 4)) from H.r_hh harg2 2 4 810 rfl _ _,
    show runA.sl.v109_1 c arg2 harg2 x1 = (fun j => a.btime (ix1 (j 0))) from H.r_btime harg2 _ _,
    show runA.sl.v111 c arg2 harg2 x1 = (fun j => a.bih (ix1 (Spec.gate 0 (j 0)))) from H.r_bih harg2 0 820 rfl _ _,
    show runA.sl.v113_1 c arg2 harg2 x1 = (fun j => a.bih (ix1 (Spec.gate 1 (j 0)))) from H.r_bih harg2 1 825 rfl _ _,
    show runA.sl.v115_1 c arg2 harg2 x1 = (fun j => a.bih (ix1 (Spec.gate 2 (j 0)))) from H.r_bih harg2 2 830 rfl _ _,
    show runA.sl.v117 c arg2 harg2 x1 = (fun j => a.bhh (ix1 (Spec.gate 0 (j 0)))) from H.r_bhh harg2 0 835 rfl _ _,
    show runA.sl.v119_1 c arg2 harg2 x1 = (fun j => a.bhh (ix1 (Spec.gate 1 (j 0)))) from H.r_bhh harg2 1 840 rfl _ _,
    show runA.sl.v121_1 c arg2 harg2 x1 = (fun j => a.bhh (ix1 (Spec.gate 2 (j 0)))) from H.r_bhh harg2 2 845 rfl _ _]
  have e := st_val a 0 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc1
    (runA.sl.v122_1 i) 0#32 1#32 (harg2.unread x1) (arg18.view.writes (Elt 𝔽) arg18.view.junk (runA.sl.H17_1 c arg8 harg8 x7))
    (fun k h r => by
      have hk : k.val < 32 := k.isLt
      have h5 := r.isLt
      refine (readAt2 harg2 x1 (k0_off1 i k) h r 0 (5 * (0 + k.val) + r.val) 0 (by omega) (by omega) ?_ ?_).trans
        (H.x r (Spec.ft (0 + k.val)) _ _ ?_)
      · rw [k0_off1_eq]; show _ = 160 * (i 0).val + 5 * k.val + r.val; omega
      · rw [k0_off1_eq]; rfl
      · show _ = 5 * ((0 + k.val) % 128) + r.val; omega)
    (fun k h => by
      have hk : k.val < 32 := k.isLt
      refine (readAtV arg18.view _ (k0_off2 i k) h 0 0 (0 + k.val) 0 (by omega) (by omega) ?_ ?_).trans ?_
      · rw [k0_off2_eq]; show _ = 32 * (i 0).val + k.val + 0; omega
      · rw [k0_off2_eq]; rfl
      · delta runA.sl.H17_1
        refine (congrFun (View.read_writes_full _ _ _ _ _) _).trans ?_
        rw [show View.readAt (Elt 𝔽) arg8.view (Rect.unit (s := S128x128) ![0, 0] S128x128.size inb_S128x128_S128x128_0_0).toLoadRect (harg8.unread x7) = a.Wsadj from
          ((View.readAt_full ..).trans (harg8.read_unread _)).trans e7]
        refine (pay11_val _ _).trans ?_
        show Spec.vs a _ = _
        exact congrArg _ (Fin.ext (by show 0 + k.val = (0 + k.val) % 128; omega)))
    32 (le_refl _)
  rw [show Scf.trips 0#32 (Scalar.addi 0#32 32#32) 1#32 = 32 from rfl]
  constructor
  · refine (View.read_writes_full _ _ _ _ _).trans ?_
    refine (congrArg (fun p => k0_pay347 p.1) e).trans ?_
    unfold k0_pay347
    exact shapeCast_self _ _
  · refine (View.read_writes_full _ _ _ _ _).trans ?_
    refine (congrArg (fun p => k0_pay348 p.2) e).trans ?_
    unfold k0_pay348
    exact shapeCast_self _ _

set_option maxHeartbeats 8000000 in
/-- The first point leaves the accumulated row of its own three blocks, the last of them short. -/
theorem runA_acc (a : Spec.Args) (s : Fin 16 → EReal) (c : Dev nD) (i : grid0.Coords) (arg1 : Memref sig .tc .vmem S5x128 .f32) (harg1 : arg1.IsWhole) (arg2 : Memref sig .tc .vmem S856x1 .f32) (harg2 : arg2.IsWhole) (arg3 : Memref sig .tc .vmem S5x128 .f32) (harg3 : arg3.IsWhole) (arg4 : Memref sig .tc .vmem S256x128 .f32) (harg4 : arg4.IsWhole) (arg5 : Memref sig .tc .vmem S128 .f32) (harg5 : arg5.IsWhole) (arg6 : Memref sig .tc .vmem S5x5 .f32) (harg6 : arg6.IsWhole) (arg7 : Memref sig .tc .vmem S128x16 .f32) (harg7 : arg7.IsWhole) (arg8 : Memref sig .tc .vmem S128x128 .f32) (harg8 : arg8.IsWhole) (arg9 : Memref sig .tc .vmem S5x16 .f32) (harg9 : arg9.IsWhole) (arg10 : Memref sig .tc .vmem S1024x640 .f32) (harg10 : arg10.IsWhole) (arg11 : Memref sig .tc .vmem S1024x640 .f32) (harg11 : arg11.IsWhole) (arg12 : Memref sig .tc .vmem S1024x640 .f32) (harg12 : arg12.IsWhole) (arg13 : Memref sig .tc .vmem S1024x640 .f32) (harg13 : arg13.IsWhole) (arg14 : Memref sig .tc .vmem S640 .f32) (harg14 : arg14.IsWhole) (arg15 : Memref sig .tc .vmem S5x128 .f32) (harg15 : arg15.IsWhole) (arg16 : Memref sig .tc .vmem S1x20480 .f32) (harg16 : arg16.IsWhole) (arg17 : Memref sig .tc .vmem S1x640 .f32) (harg17 : arg17.IsWhole) (arg18 : Memref sig .tc .vmem S128x1 .f32) (harg18 : arg18.IsWhole) (arg19 : Memref sig .tc .vmem S5x1 .f32) (harg19 : arg19.IsWhole) (arg20 : Memref sig .tc .vmem S5x1 .f32) (harg20 : arg20.IsWhole) (hc0 : cond0 i) (hc1 : cond1 i) (hc2 : ¬cond2 i) (hc3 : ¬cond3 i) (hc4 : cond4 i) (hc5 : ¬cond5 i)
    (x0 : Vec 𝔽 S5x128 .f32) (x1 : Vec 𝔽 S856x1 .f32) (x2 : Vec 𝔽 S5x128 .f32) (x3 : Vec 𝔽 S256x128 .f32) (x4 : Vec 𝔽 S128 .f32) (x5 : Vec 𝔽 S5x5 .f32) (x6 : Vec 𝔽 S128x16 .f32) (x7 : Vec 𝔽 S128x128 .f32) (x8 : Vec 𝔽 S5x16 .f32) (x9 : Vec 𝔽 S1024x640 .f32) (x10 : Vec 𝔽 S1024x640 .f32) (x11 : Vec 𝔽 S1024x640 .f32) (x12 : Vec 𝔽 S1024x640 .f32) (x13 : Vec 𝔽 S640 .f32) (x14 : Vec 𝔽 S5x128 .f32) (x15 : Vec 𝔽 S1x20480 .f32) (x16 : Vec 𝔽 S1x640 .f32) (x17 : Vec 𝔽 S128x1 .f32) (x18 : Vec 𝔽 S5x1 .f32) (x19 : Vec 𝔽 S5x1 .f32) (hi : (i 0).val = 0) (e5 : x5 = a.Wtadj) (e7 : x7 = a.Wsadj)
    (w9 : ∀ (k : Fin 1024) o, x9 (ix2 k o) = Spec.wf a (16384 + k.val) o)
    (w10 : ∀ (k : Fin 1024) o, x10 (ix2 k o) = Spec.wf a (17408 + k.val) o)
    (w11 : ∀ (k : Fin 1024) o, k.val < 105 → x11 (ix2 k o) = Spec.wf a (18432 + k.val) o)
    (f : arg17.view.ty.Contents (Elt 𝔽)) (o : Fin 640) :
    arg17.view.read (Elt 𝔽) (arg17.view.writes (Elt 𝔽) f (runA (F := 𝔽) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 x0 x1 x2 x3 x4 x5 x6 x7 x8 x9 x10 x11 x12 x13 x14 x15 x16 x17 x18 x19).2.1) (ix2 0 o) = Spec.part a s 16384 o := by
  have hC := runA_cat a s c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 x0 x1 x2 x3 x4 x5 x6 x7 x8 x9 x10 x11 x12 x13 x14 x15 x16 x17 x18 x19 e5 e7
  unfold runA at hC ⊢
  dsimp only at hC ⊢
  refine (congrFun (View.read_writes_full _ _ _ _ _) _).trans ?_
  refine acc_first a s _ _ _ _ _ _ _ o (fun k => ?_) (fun k => ?_) (fun k => ?_) (fun k => ?_) (fun k => ?_) (fun k hk => ?_) ?_
  · delta runA.sl.v13
    have := k.isLt
    exact (readAtV arg16.view _ (k0_off3 i) _ 0 k 0 (16384 + k.val) (by omega) (by omega)
      (by rw [k0_off3_eq]; rfl) (by rw [k0_off3_eq]; show _ = 16384 - 4096 * (i 0).val + k.val; omega)).trans (hC _ _ (by omega) (Or.inl (by omega)))
  · delta runA.sl.v18
    have := k.isLt
    exact (readAtV arg16.view _ (k0_off4 i 1#32) _ 0 k 0 (17408 + k.val) (by omega) (by omega)
      (by rw [off4_1]; rfl) (by rw [off4_1]; show _ = 17408 - 4096 * (i 0).val + k.val; omega)).trans (hC _ _ (by omega) (Or.inl (by omega)))
  · delta runA.sl.v23
    have := k.isLt
    exact (readAtV arg16.view _ (k0_off4 i 2#32) _ 0 k 0 (18432 + k.val) (by omega) (by omega)
      (by rw [off4_2]; rfl) (by rw [off4_2]; show _ = 18432 - 4096 * (i 0).val + k.val; omega)).trans (hC _ _ (by omega) (Or.inl (by omega)))
  · exact (congrFun ((View.readAt_full ..).trans (harg10.read_unread _)) _).trans (w9 k o)
  · exact (congrFun ((View.readAt_full ..).trans (harg11.read_unread _)) _).trans (w10 k o)
  · exact (congrFun ((View.readAt_full ..).trans (harg12.read_unread _)) _).trans (w11 k o hk)
  · delta runA.sl.v46 runA.sl.H16_1
    refine (congrFun (View.readCov_full _ _ _ _ _) _).trans ?_
    unfold k0_pay344
    exact (congrFun (shapeCast_self (s := S1x640) _ _) _).trans Ideal.ofBits_zero_f32

end Cert.KernelIdeal.Hand
end
-- ==== Proof.KernelIdealValB.lean ====
module

public import proofs.«01_k».proof.Proof.KernelIdealCat
public import proofs.«01_k».proof.Proof.KernelIdealRunB

@[expose] public section

set_option maxRecDepth 16384

noncomputable section

namespace Cert.KernelIdeal.Hand

open Idealize.ShloMosaic Idealize.ShloMosaic.TcCoe Idealize.ShloMosaic.Tactic
open Cert.KernelIdeal Cert.KernelIdeal.Gen

local notation "𝔽" => Idealize.ShloMosaic.Ideal

set_option maxHeartbeats 4000000 in
/-- At a point between, the recurrence's state and its weighted sum go on by the point's 32 steps. -/
theorem runB_state (a : Spec.Args) (n : ℕ) (c : Dev nD) (i : grid0.Coords) (arg1 : Memref sig .tc .vmem S5x128 .f32) (harg1 : arg1.IsWhole) (arg2 : Memref sig .tc .vmem S856x1 .f32) (harg2 : arg2.IsWhole) (arg3 : Memref sig .tc .vmem S5x128 .f32) (harg3 : arg3.IsWhole) (arg4 : Memref sig .tc .vmem S256x128 .f32) (harg4 : arg4.IsWhole) (arg5 : Memref sig .tc .vmem S128 .f32) (harg5 : arg5.IsWhole) (arg6 : Memref sig .tc .vmem S5x5 .f32) (harg6 : arg6.IsWhole) (arg7 : Memref sig .tc .vmem S128x16 .f32) (harg7 : arg7.IsWhole) (arg8 : Memref sig .tc .vmem S128x128 .f32) (harg8 : arg8.IsWhole) (arg9 : Memref sig .tc .vmem S5x16 .f32) (harg9 : arg9.IsWhole) (arg10 : Memref sig .tc .vmem S1024x640 .f32) (harg10 : arg10.IsWhole) (arg11 : Memref sig .tc .vmem S1024x640 .f32) (harg11 : arg11.IsWhole) (arg12 : Memref sig .tc .vmem S1024x640 .f32) (harg12 : arg12.IsWhole) (arg13 : Memref sig .tc .vmem S1024x640 .f32) (harg13 : arg13.IsWhole) (arg14 : Memref sig .tc .vmem S640 .f32) (harg14 : arg14.IsWhole) (arg15 : Memref sig .tc .vmem S5x128 .f32) (harg15 : arg15.IsWhole) (arg16 : Memref sig .tc .vmem S1x20480 .f32) (harg16 : arg16.IsWhole) (arg17 : Memref sig .tc .vmem S1x640 .f32) (harg17 : arg17.IsWhole) (arg18 : Memref sig .tc .vmem S128x1 .f32) (harg18 : arg18.IsWhole) (arg19 : Memref sig .tc .vmem S5x1 .f32) (harg19 : arg19.IsWhole) (arg20 : Memref sig .tc .vmem S5x1 .f32) (harg20 : arg20.IsWhole) (hc0 : ¬cond0 i) (hc1 : cond1 i) (hc2 : ¬cond2 i) (hc3 : cond3 i) (hc4 : ¬cond4 i) (hc5 : ¬cond5 i)
    (x0 : Vec 𝔽 S5x128 .f32) (x1 : Vec 𝔽 S856x1 .f32) (x2 : Vec 𝔽 S5x128 .f32) (x3 : Vec 𝔽 S256x128 .f32) (x4 : Vec 𝔽 S128 .f32) (x5 : Vec 𝔽 S5x5 .f32) (x6 : Vec 𝔽 S128x16 .f32) (x7 : Vec 𝔽 S128x128 .f32) (x8 : Vec 𝔽 S5x16 .f32) (x9 : Vec 𝔽 S1024x640 .f32) (x10 : Vec 𝔽 S1024x640 .f32) (x11 : Vec 𝔽 S1024x640 .f32) (x12 : Vec 𝔽 S1024x640 .f32) (x13 : Vec 𝔽 S640 .f32) (x14 : Vec 𝔽 S5x128 .f32) (x15 : Vec 𝔽 S1x20480 .f32) (x16 : Vec 𝔽 S1x640 .f32) (x17 : Vec 𝔽 S128x1 .f32) (x18 : Vec 𝔽 S5x1 .f32) (x19 : Vec 𝔽 S5x1 .f32) (hi : (i 0).val < 4) (hn : n = 32 * (i 0).val) (H : Cols x1 a)
    (h17 : ∀ v : Fin 128, x17 (ix2 v 0) = Spec.vs a v) (h18 : x18 = (carried a n).1) (h19 : x19 = (carried a n).2) :
    arg19.view.read (Elt 𝔽) (arg19.view.writes (Elt 𝔽) (harg19.unread x18) (runB (F := 𝔽) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 x0 x1 x2 x3 x4 x5 x6 x7 x8 x9 x10 x11 x12 x13 x14 x15 x16 x17 x18 x19).2.1) = (carried a (n + 32)).1
    ∧ arg20.view.read (Elt 𝔽) (arg20.view.writes (Elt 𝔽) (harg20.unread x19) (runB (F := 𝔽) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 x0 x1 x2 x3 x4 x5 x6 x7 x8 x9 x10 x11 x12 x13 x14 x15 x16 x17 x18 x19).2.2.1) = (carried a (n + 32)).2 := by

  unfold runB
  dsimp only
  rw [show runB.sl.r (F := 𝔽) c arg19 harg19 x18 = (carried a n).1 from by
      delta runB.sl.r; exact ((View.readAt_full ..).trans (harg19.read_unread _)).trans h18,
    show runB.sl.r_1 (F := 𝔽) c arg20 harg20 x19 = (carried a n).2 from by
      delta runB.sl.r_1; exact ((View.readAt_full ..).trans (harg20.read_unread _)).trans h19,
    show runB.sl.v39 c arg2 harg2 x1 = (fun j => a.Wtime (ix2 0 (j 0))) from H.r_time harg2 0 640 rfl _ _,
    show runB.sl.v41 c arg2 harg2 x1 = (fun j => a.Wtime (ix2 1 (j 0))) from H.r_time harg2 1 645 rfl _ _,
    show runB.sl.v43 c arg2 harg2 x1 = (fun j => a.Wtime (ix2 2 (j 0))) from H.r_time harg2 2 650 rfl _ _,
    show runB.sl.v45 c arg2 harg2 x1 = (fun j => a.Wtime (ix2 3 (j 0))) from H.r_time harg2 3 655 rfl _ _,
    show runB.sl.v47 c arg2 harg2 x1 = (fun j => a.Wtime (ix2 4 (j 0))) from H.r_time harg2 4 660 rfl _ _,
    show runB.sl.v49 c arg2 harg2 x1 = (fun j => a.Wih (ix2 (Spec.gate 0 (j 0)) 0)) from H.r_ih harg2 0 0 665 rfl _ _,
    show runB.sl.v51 c arg2 harg2 x1 = (fun j => a.Wih (ix2 (Spec.gate 0 (j 0)) 1)) from H.r_ih harg2 0 1 670 rfl _ _,
    show runB.sl.v53 c arg2 harg2 x1 = (fun j => a.Wih (ix2 (Spec.gate 0 (j 0)) 2)) from H.r_ih harg2 0 2 675 rfl _ _,
    show runB.sl.v55 c arg2 harg2 x1 = (fun j => a.Wih (ix2 (Spec.gate 0 (j 0)) 3)) from H.r_ih harg2 0 3 680 rfl _ _,
    show runB.sl.v57 c arg2 harg2 x1 = (fun j => a.Wih (ix2 (Spec.gate 0 (j 0)) 4)) from H.r_ih harg2 0 4 685 rfl _ _,
    show runB.sl.v59 c arg2 harg2 x1 = (fun j => a.Wih (ix2 (Spec.gate 1 (j 0)) 0)) from H.r_ih harg2 1 0 690 rfl _ _,
    show runB.sl.v61 c arg2 harg2 x1 = (fun j => a.Wih (ix2 (Spec.gate 1 (j 0)) 1)) from H.r_ih harg2 1 1 695 rfl _ _,
    show runB.sl.v63 c arg2 harg2 x1 = (fun j => a.Wih (ix2 (Spec.gate 1 (j 0)) 2)) from H.r_ih harg2 1 2 700 rfl _ _,
    show runB.sl.v65 c arg2 harg2 x1 = (fun j => a.Wih (ix2 (Spec.gate 1 (j 0)) 3)) from H.r_ih harg2 1 3 705 rfl _ _,
    show runB.sl.v67 c arg2 harg2 x1 = (fun j => a.Wih (ix2 (Spec.gate 1 (j 0)) 4)) from H.r_ih harg2 1 4 710 rfl _ _,
    show runB.sl.v69 c arg2 harg2 x1 = (fun j => a.Wih (ix2 (Spec.gate 2 (j 0)) 0)) from H.r_ih harg2 2 0 715 rfl _ _,
    show runB.sl.v71 c arg2 harg2 x1 = (fun j => a.Wih (ix2 (Spec.gate 2 (j 0)) 1)) from H.r_ih harg2 2 1 720 rfl _ _,
    show runB.sl.v73 c arg2 harg2 x1 = (fun j => a.Wih (ix2 (Spec.gate 2 (j 0)) 2)) from H.r_ih harg2 2 2 725 rfl _ _,
    show runB.sl.v75 c arg2 harg2 x1 = (fun j => a.Wih (ix2 (Spec.gate 2 (j 0)) 3)) from H.r_ih harg2 2 3 730 rfl _ _,
    show runB.sl.v77 c arg2 harg2 x1 = (fun j => a.Wih (ix2 (Spec.gate 2 (j 0)) 4)) from H.r_ih harg2 2 4 735 rfl _ _,
    show runB.sl.v79 c arg2 harg2 x1 = (fun j => a.Whh (ix2 (Spec.gate 0 (j 0)) 0)) from H.r_hh harg2 0 0 740 rfl _ _,
    show runB.sl.v81 c arg2 harg2 x1 = (fun j => a.Whh (ix2 (Spec.gate 0 (j 0)) 1)) from H.r_hh harg2 0 1 745 rfl _ _,
    show runB.sl.v83 c arg2 harg2 x1 = (fun j => a.Whh (ix2 (Spec.gate 0 (j 0)) 2)) from H.r_hh harg2 0 2 750 rfl _ _,
    show runB.sl.v85 c arg2 harg2 x1 = (fun j => a.Whh (ix2 (Spec.gate 0 (j 0)) 3)) from H.r_hh harg2 0 3 755 rfl _ _,
    show runB.sl.v87 c arg2 harg2 x1 = (fun j => a.Whh (ix2 (Spec.gate 0 (j 0)) 4)) from H.r_hh harg2 0 4 760 rfl _ _,
    show runB.sl.v89 c arg2 harg2 x1 = (fun j => a.Whh (ix2 (Spec.gate 1 (j 0)) 0)) from H.r_hh harg2 1 0 765 rfl _ _,
    show runB.sl.v91 c arg2 harg2 x1 = (fun j => a.Whh (ix2 (Spec.gate 1 (j 0)) 1)) from H.r_hh harg2 1 1 770 rfl _ _,
    show runB.sl.v93 c arg2 harg2 x1 = (fun j => a.Whh (ix2 (Spec.gate 1 (j 0)) 2)) from H.r_hh harg2 1 2 775 rfl _ _,
    show runB.sl.v95 c arg2 harg2 x1 = (fun j => a.Whh (ix2 (Spec.gate 1 (j 0)) 3)) from H.r_hh harg2 1 3 780 rfl _ _,
    show runB.sl.v97 c arg2 harg2 x1 = (fun j => a.Whh (ix2 (Spec.gate 1 (j 0)) 4)) from H.r_hh harg2 1 4 785 rfl _ _,
    show runB.sl.v99 c arg2 harg2 x1 = (fun j => a.Whh (ix2 (Spec.gate 2 (j 0)) 0)) from H.r_hh harg2 2 0 790 rfl _ _,
    show runB.sl.v101 c arg2 harg2 x1 = (fun j => a.Whh (ix2 (Spec.gate 2 (j 0)) 1)) from H.r_hh harg2 2 1 795 rfl _ _,
    show runB.sl.v103 c arg2 harg2 x1 = (fun j => a.Whh (ix2 (Spec.gate 2 (j 0)) 2)) from H.r_hh harg2 2 2 800 rfl _ _,
    show runB.sl.v105 c arg2 harg2 x1 = (fun j => a.Whh (ix2 (Spec.gate 2 (j 0)) 3)) from H.r_hh harg2 2 3 805 rfl _ _,
    show runB.sl.v107 c arg2 harg2 x1 = (fun j => a.Whh (ix2 (Spec.gate 2 (j 0)) 4)) from H.r_hh harg2 2 4 810 rfl _ _,
    show runB.sl.v109 c arg2 harg2 x1 = (fun j => a.btime (ix1 (j 0))) from H.r_btime harg2 _ _,
    show runB.sl.v111 c arg2 harg2 x1 = (fun j => a.bih (ix1 (Spec.gate 0 (j 0)))) from H.r_bih harg2 0 820 rfl _ _,
    show runB.sl.v113 c arg2 harg2 x1 = (fun j => a.bih (ix1 (Spec.gate 1 (j 0)))) from H.r_bih harg2 1 825 rfl _ _,
    show runB.sl.v115 c arg2 harg2 x1 = (fun j => a.bih (ix1 (Spec.gate 2 (j 0)))) from H.r_bih harg2 2 830 rfl _ _,
    show runB.sl.v117 c arg2 harg2 x1 = (fun j => a.bhh (ix1 (Spec.gate 0 (j 0)))) from H.r_bhh harg2 0 835 rfl _ _,
    show runB.sl.v119 c arg2 harg2 x1 = (fun j => a.bhh (ix1 (Spec.gate 1 (j 0)))) from H.r_bhh harg2 1 840 rfl _ _,
    show runB.sl.v121 c arg2 harg2 x1 = (fun j => a.bhh (ix1 (Spec.gate 2 (j 0)))) from H.r_bhh harg2 2 845 rfl _ _]
  have e := st_val a n Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc1
    (runB.sl.v122 i) 0#32 1#32 (harg2.unread x1) (harg18.unread x17)
    (fun k h r => by
      have hk : k.val < 32 := k.isLt
      have h5 := r.isLt
      refine (readAt2 harg2 x1 (k0_off1 i k) h r 0 (5 * (n + k.val) + r.val) 0 (by omega) (by omega) ?_ ?_).trans
        (H.x r (Spec.ft (n + k.val)) _ _ ?_)
      · rw [k0_off1_eq]; show _ = 160 * (i 0).val + 5 * k.val + r.val; omega
      · rw [k0_off1_eq]; rfl
      · show _ = 5 * ((n + k.val) % 128) + r.val; omega)
    (fun k h => by
      have hk : k.val < 32 := k.isLt
      refine (readAt2 harg18 x17 (k0_off2 i k) h 0 0 (n + k.val) 0 (by omega) (by omega) ?_ ?_).trans ((h17 _).trans (congrArg _ (Fin.ext ?_)))
      · rw [k0_off2_eq]; show _ = 32 * (i 0).val + k.val + 0; omega
      · rw [k0_off2_eq]; rfl
      · show n + k.val = (n + k.val) % 128; omega)
    32 (le_refl _)
  rw [show Scf.trips 0#32 (Scalar.addi 0#32 32#32) 1#32 = 32 from rfl]
  constructor
  · refine (View.read_writes_full _ _ _ _ _).trans ?_
    refine (congrArg (fun p => k0_pay347 p.1) e).trans ?_
    unfold k0_pay347
    exact shapeCast_self _ _
  · refine (View.read_writes_full _ _ _ _ _).trans ?_
    refine (congrArg (fun p => k0_pay348 p.2) e).trans ?_
    unfold k0_pay348
    exact shapeCast_self _ _

set_option maxHeartbeats 4000000 in
/-- At a point between, the accumulated row goes on by the point's four blocks. -/
theorem runB_acc (a : Spec.Args) (s : Fin 16 → EReal) (c : Dev nD) (i : grid0.Coords) (arg1 : Memref sig .tc .vmem S5x128 .f32) (harg1 : arg1.IsWhole) (arg2 : Memref sig .tc .vmem S856x1 .f32) (harg2 : arg2.IsWhole) (arg3 : Memref sig .tc .vmem S5x128 .f32) (harg3 : arg3.IsWhole) (arg4 : Memref sig .tc .vmem S256x128 .f32) (harg4 : arg4.IsWhole) (arg5 : Memref sig .tc .vmem S128 .f32) (harg5 : arg5.IsWhole) (arg6 : Memref sig .tc .vmem S5x5 .f32) (harg6 : arg6.IsWhole) (arg7 : Memref sig .tc .vmem S128x16 .f32) (harg7 : arg7.IsWhole) (arg8 : Memref sig .tc .vmem S128x128 .f32) (harg8 : arg8.IsWhole) (arg9 : Memref sig .tc .vmem S5x16 .f32) (harg9 : arg9.IsWhole) (arg10 : Memref sig .tc .vmem S1024x640 .f32) (harg10 : arg10.IsWhole) (arg11 : Memref sig .tc .vmem S1024x640 .f32) (harg11 : arg11.IsWhole) (arg12 : Memref sig .tc .vmem S1024x640 .f32) (harg12 : arg12.IsWhole) (arg13 : Memref sig .tc .vmem S1024x640 .f32) (harg13 : arg13.IsWhole) (arg14 : Memref sig .tc .vmem S640 .f32) (harg14 : arg14.IsWhole) (arg15 : Memref sig .tc .vmem S5x128 .f32) (harg15 : arg15.IsWhole) (arg16 : Memref sig .tc .vmem S1x20480 .f32) (harg16 : arg16.IsWhole) (arg17 : Memref sig .tc .vmem S1x640 .f32) (harg17 : arg17.IsWhole) (arg18 : Memref sig .tc .vmem S128x1 .f32) (harg18 : arg18.IsWhole) (arg19 : Memref sig .tc .vmem S5x1 .f32) (harg19 : arg19.IsWhole) (arg20 : Memref sig .tc .vmem S5x1 .f32) (harg20 : arg20.IsWhole) (hc0 : ¬cond0 i) (hc1 : cond1 i) (hc2 : ¬cond2 i) (hc3 : cond3 i) (hc4 : ¬cond4 i) (hc5 : ¬cond5 i)
    (x0 : Vec 𝔽 S5x128 .f32) (x1 : Vec 𝔽 S856x1 .f32) (x2 : Vec 𝔽 S5x128 .f32) (x3 : Vec 𝔽 S256x128 .f32) (x4 : Vec 𝔽 S128 .f32) (x5 : Vec 𝔽 S5x5 .f32) (x6 : Vec 𝔽 S128x16 .f32) (x7 : Vec 𝔽 S128x128 .f32) (x8 : Vec 𝔽 S5x16 .f32) (x9 : Vec 𝔽 S1024x640 .f32) (x10 : Vec 𝔽 S1024x640 .f32) (x11 : Vec 𝔽 S1024x640 .f32) (x12 : Vec 𝔽 S1024x640 .f32) (x13 : Vec 𝔽 S640 .f32) (x14 : Vec 𝔽 S5x128 .f32) (x15 : Vec 𝔽 S1x20480 .f32) (x16 : Vec 𝔽 S1x640 .f32) (x17 : Vec 𝔽 S128x1 .f32) (x18 : Vec 𝔽 S5x1 .f32) (x19 : Vec 𝔽 S5x1 .f32) (hi : (i 0).val < 4) (h0 : 0 < (i 0).val)
    (hcat : ∀ n (h : n < 20480), 2128 ≤ n → x15 (ix2 0 ⟨n, h⟩) = Spec.cat a s n)
    (w9 : ∀ (k : Fin 1024) o, x9 (ix2 k o) = Spec.wf a (16384 - 4096 * (i 0).val + k.val) o)
    (w10 : ∀ (k : Fin 1024) o, x10 (ix2 k o) = Spec.wf a (16384 - 4096 * (i 0).val + 1024 + k.val) o)
    (w11 : ∀ (k : Fin 1024) o, x11 (ix2 k o) = Spec.wf a (16384 - 4096 * (i 0).val + 2048 + k.val) o)
    (w12 : ∀ (k : Fin 1024) o, x12 (ix2 k o) = Spec.wf a (16384 - 4096 * (i 0).val + 3072 + k.val) o)
    (hacc : ∀ o, x16 (ix2 0 o) = Spec.part a s (16384 - 4096 * (i 0).val + 4096) o) (o : Fin 640) :
    arg17.view.read (Elt 𝔽) (arg17.view.writes (Elt 𝔽) (harg17.unread x16) (runB (F := 𝔽) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 x0 x1 x2 x3 x4 x5 x6 x7 x8 x9 x10 x11 x12 x13 x14 x15 x16 x17 x18 x19).1) (ix2 0 o)
      = Spec.part a s (16384 - 4096 * (i 0).val) o := by
  unfold runB
  dsimp only
  refine (congrFun (View.read_writes_full _ _ _ _ _) _).trans ?_
  refine acc_full a s _ (by omega) _ _ _ _ _ _ _ _ _ o (fun k => ?_) (fun k => ?_) (fun k => ?_) (fun k => ?_) (fun k => ?_) (fun k => ?_) (fun k => ?_) (fun k => ?_) ?_
  · delta runB.sl.r_2
    have := k.isLt
    exact (readAt2 harg16 x15 (k0_off3 i) _ 0 k 0 (16384 - 4096 * (i 0).val + k.val) (by omega) (by omega)
      (by rw [k0_off3_eq]; rfl) (by rw [k0_off3_eq]; rfl)).trans (hcat _ _ (by omega))
  · delta runB.sl.r_3
    have := k.isLt
    exact (readAt2 harg16 x15 (k0_off4 i 1#32) _ 0 k 0 (16384 - 4096 * (i 0).val + 1024 + k.val) (by omega) (by omega)
      (by rw [off4_1]; rfl) (by rw [off4_1]; show _ = 17408 - 4096 * (i 0).val + k.val; omega)).trans (hcat _ _ (by omega))
  · delta runB.sl.r_4
    have := k.isLt
    exact (readAt2 harg16 x15 (k0_off4 i 2#32) _ 0 k 0 (16384 - 4096 * (i 0).val + 2048 + k.val) (by omega) (by omega)
      (by rw [off4_2]; rfl) (by rw [off4_2]; show _ = 18432 - 4096 * (i 0).val + k.val; omega)).trans (hcat _ _ (by omega))
  · delta runB.sl.r_5
    have := k.isLt
    exact (readAt2 harg16 x15 (k0_off4 i 3#32) _ 0 k 0 (16384 - 4096 * (i 0).val + 3072 + k.val) (by omega) (by omega)
      (by rw [off4_3]; rfl) (by rw [off4_3]; show _ = 19456 - 4096 * (i 0).val + k.val; omega)).trans (hcat _ _ (by omega))
  · exact (congrFun ((View.readAt_full ..).trans (harg10.read_unread _)) _).trans (w9 k o)
  · exact (congrFun ((View.readAt_full ..).trans (harg11.read_unread _)) _).trans (w10 k o)
  · exact (congrFun ((View.readAt_full ..).trans (harg12.read_unread _)) _).trans (w11 k o)
  · exact (congrFun ((View.readAt_full ..).trans (harg13.read_unread _)) _).trans (w12 k o)
  · exact (congrFun ((View.readAt_full ..).trans (harg17.read_unread _)) _).trans (hacc o)

end Cert.KernelIdeal.Hand
end
-- ==== Proof.KernelIdealValC.lean ====
module

public import proofs.«01_k».proof.Proof.KernelIdealCat
public import proofs.«01_k».proof.Proof.KernelIdealRunC

@[expose] public section

set_option maxRecDepth 16384

noncomputable section

namespace Cert.KernelIdeal.Hand

open Idealize.ShloMosaic Idealize.ShloMosaic.TcCoe Idealize.ShloMosaic.Tactic
open Cert.KernelIdeal Cert.KernelIdeal.Gen

local notation "𝔽" => Idealize.ShloMosaic.Ideal

set_option maxHeartbeats 1000000 in
/-- The temporal features, from the inputs. -/
theorem tf_val (a : Spec.Args) {arg1 : Memref sig .tc .vmem S5x128 .f32} (harg1 : arg1.IsWhole) {arg3 : Memref sig .tc .vmem S5x128 .f32} (harg3 : arg3.IsWhole) {arg4 : Memref sig .tc .vmem S256x128 .f32} (harg4 : arg4.IsWhole) {arg5 : Memref sig .tc .vmem S128 .f32} (harg5 : arg5.IsWhole) {arg6 : Memref sig .tc .vmem S5x5 .f32} (harg6 : arg6.IsWhole) {arg7 : Memref sig .tc .vmem S128x16 .f32} (harg7 : arg7.IsWhole) (p1) (p2) (p3) (p4) (p5) (p6) (p7) (q : Fin 16) :
    k0_pay209 (F := 𝔽)
        (View.readAt (Elt 𝔽) arg1.view (Rect.unit (s := S5x128) ![0, 0] S5x128.size p1).toLoadRect (harg1.unread a.x))
        (View.readAt (Elt 𝔽) arg1.view (Rect.unit (s := S5x128) ![0, 0] S5x128.size p1).toLoadRect (harg1.unread a.x))
        (View.readAt (Elt 𝔽) arg4.view (Rect.unit (s := S256x128) ![0, 0] S128x128.size p2).toLoadRect (harg4.unread a.Wfuse))
        (View.readAt (Elt 𝔽) arg3.view (Rect.unit (s := S5x128) ![0, 0] S5x128.size p3).toLoadRect (harg3.unread a.fft))
        (View.readAt (Elt 𝔽) arg4.view (Rect.unit (s := S256x128) ![128, 0] S128x128.size p4).toLoadRect (harg4.unread a.Wfuse))
        (View.readAt (Elt 𝔽) arg5.view (Rect.unit (s := S128) ![0] S128.size p5).toLoadRect (harg5.unread a.bfuse))
        (View.readAt (Elt 𝔽) arg6.view (Rect.unit (s := S5x5) ![0, 0] S5x5.size p6).toLoadRect (harg6.unread a.Wtadj))
        (View.readAt (Elt 𝔽) arg7.view (Rect.unit (s := S128x16) ![0, 0] S128x16.size p7).toLoadRect (harg7.unread a.Wt)) (ix2 0 q)
      = Spec.tf a q := by
  rw [show View.readAt (Elt 𝔽) arg1.view (Rect.unit (s := S5x128) ![0, 0] S5x128.size p1).toLoadRect (harg1.unread a.x) = a.x from ((View.readAt_full ..).trans (harg1.read_unread _)),
    show View.readAt (Elt 𝔽) arg3.view (Rect.unit (s := S5x128) ![0, 0] S5x128.size p3).toLoadRect (harg3.unread a.fft) = a.fft from ((View.readAt_full ..).trans (harg3.read_unread _)),
    show View.readAt (Elt 𝔽) arg5.view (Rect.unit (s := S128) ![0] S128.size p5).toLoadRect (harg5.unread a.bfuse) = a.bfuse from ((View.readAt_full ..).trans (harg5.read_unread _)),
    show View.readAt (Elt 𝔽) arg6.view (Rect.unit (s := S5x5) ![0, 0] S5x5.size p6).toLoadRect (harg6.unread a.Wtadj) = a.Wtadj from ((View.readAt_full ..).trans (harg6.read_unread _)),
    show View.readAt (Elt 𝔽) arg7.view (Rect.unit (s := S128x16) ![0, 0] S128x16.size p7).toLoadRect (harg7.unread a.Wt) = a.Wt from ((View.readAt_full ..).trans (harg7.read_unread _))]
  rw [pay209_val]
  have e1 : ∀ k g : Fin 128, View.readAt (Elt 𝔽) arg4.view (Rect.unit (s := S256x128) ![0, 0] S128x128.size p2).toLoadRect (harg4.unread a.Wfuse) (ix2 k g)
      = a.Wfuse (ix2 ⟨k.val, by omega⟩ g) := fun k g => by
    exact readAt2 harg4 a.Wfuse ![0, 0] p2 k g k.val g.val (by omega) g.isLt (Nat.zero_add _).symm (Nat.zero_add _).symm
  have e2 : ∀ k g : Fin 128, View.readAt (Elt 𝔽) arg4.view (Rect.unit (s := S256x128) ![128, 0] S128x128.size p4).toLoadRect (harg4.unread a.Wfuse) (ix2 k g)
      = a.Wfuse (ix2 ⟨128 + k.val, by omega⟩ g) := fun k g => by
    exact readAt2 harg4 a.Wfuse ![128, 0] p4 k g (128 + k.val) g.val (by omega) g.isLt rfl (Nat.zero_add _).symm
  simp only [e1, e2]
  rfl

set_option maxHeartbeats 8000000 in
/-- At the last point the row of features is complete. -/
theorem runC_cat (a : Spec.Args) (c : Dev nD) (i : grid0.Coords) (arg1 : Memref sig .tc .vmem S5x128 .f32) (harg1 : arg1.IsWhole) (arg2 : Memref sig .tc .vmem S856x1 .f32) (harg2 : arg2.IsWhole) (arg3 : Memref sig .tc .vmem S5x128 .f32) (harg3 : arg3.IsWhole) (arg4 : Memref sig .tc .vmem S256x128 .f32) (harg4 : arg4.IsWhole) (arg5 : Memref sig .tc .vmem S128 .f32) (harg5 : arg5.IsWhole) (arg6 : Memref sig .tc .vmem S5x5 .f32) (harg6 : arg6.IsWhole) (arg7 : Memref sig .tc .vmem S128x16 .f32) (harg7 : arg7.IsWhole) (arg8 : Memref sig .tc .vmem S128x128 .f32) (harg8 : arg8.IsWhole) (arg9 : Memref sig .tc .vmem S5x16 .f32) (harg9 : arg9.IsWhole) (arg10 : Memref sig .tc .vmem S1024x640 .f32) (harg10 : arg10.IsWhole) (arg11 : Memref sig .tc .vmem S1024x640 .f32) (harg11 : arg11.IsWhole) (arg12 : Memref sig .tc .vmem S1024x640 .f32) (harg12 : arg12.IsWhole) (arg13 : Memref sig .tc .vmem S1024x640 .f32) (harg13 : arg13.IsWhole) (arg14 : Memref sig .tc .vmem S640 .f32) (harg14 : arg14.IsWhole) (arg15 : Memref sig .tc .vmem S5x128 .f32) (harg15 : arg15.IsWhole) (arg16 : Memref sig .tc .vmem S1x20480 .f32) (harg16 : arg16.IsWhole) (arg17 : Memref sig .tc .vmem S1x640 .f32) (harg17 : arg17.IsWhole) (arg18 : Memref sig .tc .vmem S128x1 .f32) (harg18 : arg18.IsWhole) (arg19 : Memref sig .tc .vmem S5x1 .f32) (harg19 : arg19.IsWhole) (arg20 : Memref sig .tc .vmem S5x1 .f32) (harg20 : arg20.IsWhole) (hc0 : ¬cond0 i) (hc1 : ¬cond1 i) (hc2 : cond2 i) (hc3 : cond3 i) (hc4 : ¬cond4 i) (hc5 : cond5 i)
    (x0 : Vec 𝔽 S5x128 .f32) (x1 : Vec 𝔽 S856x1 .f32) (x2 : Vec 𝔽 S5x128 .f32) (x3 : Vec 𝔽 S256x128 .f32) (x4 : Vec 𝔽 S128 .f32) (x5 : Vec 𝔽 S5x5 .f32) (x6 : Vec 𝔽 S128x16 .f32) (x7 : Vec 𝔽 S128x128 .f32) (x8 : Vec 𝔽 S5x16 .f32) (x9 : Vec 𝔽 S1024x640 .f32) (x10 : Vec 𝔽 S1024x640 .f32) (x11 : Vec 𝔽 S1024x640 .f32) (x12 : Vec 𝔽 S1024x640 .f32) (x13 : Vec 𝔽 S640 .f32) (x14 : Vec 𝔽 S5x128 .f32) (x15 : Vec 𝔽 S1x20480 .f32) (x16 : Vec 𝔽 S1x640 .f32) (x17 : Vec 𝔽 S128x1 .f32) (x18 : Vec 𝔽 S5x1 .f32) (x19 : Vec 𝔽 S5x1 .f32) (hi : (i 0).val = 4)
    (e0 : x0 = a.x) (e2 : x2 = a.fft) (e3 : x3 = a.Wfuse) (e4 : x4 = a.bfuse) (e5 : x5 = a.Wtadj) (e6 : x6 = a.Wt) (e8 : x8 = a.Ws)
    (hcat : ∀ n (h : n < 20480), 2128 ≤ n → x15 (ix2 0 ⟨n, h⟩) = Spec.cat a (Spec.sf a) n) (h19 : x19 = (carried a 128).2) (n : ℕ) (h : n < 20480) :
    arg16.view.read (Elt 𝔽) (arg16.view.writes (Elt 𝔽) (harg16.unread x15) (runC.sl.H15_133 (F := 𝔽) c arg1 harg1 arg3 harg3 arg4 harg4 arg5 harg5 arg6 harg6 arg7 harg7 arg9 harg9 arg20 harg20 x0 x2 x3 x4 x5 x6 x8 x19)) (ix2 0 ⟨n, h⟩)
      = Spec.cat a (Spec.sf a) n := by
  have hS : ∀ q : Fin 16, runC.sl.r_1 (F := 𝔽) c arg9 harg9 arg20 harg20 x8 x19 (ix2 0 q) = Spec.sf a q := fun q => by
    delta runC.sl.r_1
    rw [show View.readAt (Elt 𝔽) arg20.view (Rect.unit (s := S5x1) ![0, 0] S5x1.size inb_S5x1_S5x1_0_0).toLoadRect (harg20.unread x19) = (carried a 128).2 from
      ((View.readAt_full ..).trans (harg20.read_unread _)).trans h19,
      show View.readAt (Elt 𝔽) arg9.view (Rect.unit (s := S5x16) ![0, 0] S5x16.size inb_S5x16_S5x16_0_0).toLoadRect (harg9.unread x8) = a.Ws from
      ((View.readAt_full ..).trans (harg9.read_unread _)).trans e8, pay210_val]
    rfl
  have hS' : ∀ q : Fin 16, runC.sl.v82 (F := 𝔽) c arg9 harg9 arg20 harg20 x8 x19 (ix2 0 q) = Spec.sf a q := fun q => by
    delta runC.sl.v82
    exact (congrFun (shapeCast_self (s := S1x16) _ _) _).trans (hS q)
  subst e0 e2 e3 e4 e5 e6
  have hT : ∀ q : Fin 16, runC.sl.r (F := 𝔽) c arg1 harg1 arg3 harg3 arg4 harg4 arg5 harg5 arg6 harg6 arg7 harg7 a.x a.fft a.Wfuse a.bfuse a.Wtadj a.Wt (ix2 0 q) = Spec.tf a q := fun q => by
    delta runC.sl.r
    exact tf_val a harg1 harg3 harg4 harg5 harg6 harg7 _ _ _ _ _ _ _ q
  have hT' : ∀ q : Fin 16, runC.sl.v70 (F := 𝔽) c arg1 harg1 arg3 harg3 arg4 harg4 arg5 harg5 arg6 harg6 arg7 harg7 a.x a.fft a.Wfuse a.bfuse a.Wtadj a.Wt (ix2 0 q) = Spec.tf a q := fun q => by
    delta runC.sl.v70
    exact (congrFun (shapeCast_self (s := S1x16) _ _) _).trans (hT q)
  have key : Holds arg16.view (harg16.unread x15) (Spec.cat a (Spec.sf a)) 0 2128 2128 (runC.sl.H15_133 (F := 𝔽) c arg1 harg1 arg3 harg3 arg4 harg4 arg5 harg5 arg6 harg6 arg7 harg7 arg9 harg9 arg20 harg20 a.x a.fft a.Wfuse a.bfuse a.Wtadj a.Wt x8 x19) := by
    delta runC.sl.H15_133
    refine Holds.cons (by decide) (fun k => ?_) ?_
    · refine Eq.trans ?_ (cat_sf a _ 2112 (by decide) k).symm
      unfold k0_pay350
      exact (congrFun (shapeCast_self (s := S1x16) _ _) _).trans (hS k)
    refine Holds.cons (by decide) (fun k => ?_) ?_
    · refine Eq.trans ?_ (cat_sf a _ 2096 (by decide) k).symm
      unfold k0_pay349
      exact (congrFun (shapeCast_self (s := S1x16) _ _) _).trans (hS k)
    repeat
      refine Holds.cons (by decide) (fun k => (hS' k).trans (cat_sf a _ _ (by decide) k).symm) ?_
    repeat
      refine Holds.cons (by decide) (fun k => (hT' k).trans (cat_tf a _ _ (by decide) k).symm) ?_
    exact Holds.base fun n h hn => (congrFun (harg16.read_unread x15) _).trans (hcat n h hn)
  exact key n h (Nat.zero_le _) (Nat.lt_or_ge _ _)

end Cert.KernelIdeal.Hand
end
-- ==== Proof.KernelIdealOutC.lean ====
module

public import proofs.«01_k».proof.Proof.KernelIdealValC
public import proofs.«01_k».proof.Proof.KernelIdealRunC

@[expose] public section

set_option maxRecDepth 16384

noncomputable section

namespace Cert.KernelIdeal.Hand

open Idealize.ShloMosaic Idealize.ShloMosaic.TcCoe Idealize.ShloMosaic.Tactic
open Cert.KernelIdeal Cert.KernelIdeal.Gen

local notation "𝔽" => Idealize.ShloMosaic.Ideal

set_option maxHeartbeats 4000000 in
/-- The last point makes the result. -/
theorem runC_out (a : Spec.Args) (c : Dev nD) (i : grid0.Coords) (arg1 : Memref sig .tc .vmem S5x128 .f32) (harg1 : arg1.IsWhole) (arg2 : Memref sig .tc .vmem S856x1 .f32) (harg2 : arg2.IsWhole) (arg3 : Memref sig .tc .vmem S5x128 .f32) (harg3 : arg3.IsWhole) (arg4 : Memref sig .tc .vmem S256x128 .f32) (harg4 : arg4.IsWhole) (arg5 : Memref sig .tc .vmem S128 .f32) (harg5 : arg5.IsWhole) (arg6 : Memref sig .tc .vmem S5x5 .f32) (harg6 : arg6.IsWhole) (arg7 : Memref sig .tc .vmem S128x16 .f32) (harg7 : arg7.IsWhole) (arg8 : Memref sig .tc .vmem S128x128 .f32) (harg8 : arg8.IsWhole) (arg9 : Memref sig .tc .vmem S5x16 .f32) (harg9 : arg9.IsWhole) (arg10 : Memref sig .tc .vmem S1024x640 .f32) (harg10 : arg10.IsWhole) (arg11 : Memref sig .tc .vmem S1024x640 .f32) (harg11 : arg11.IsWhole) (arg12 : Memref sig .tc .vmem S1024x640 .f32) (harg12 : arg12.IsWhole) (arg13 : Memref sig .tc .vmem S1024x640 .f32) (harg13 : arg13.IsWhole) (arg14 : Memref sig .tc .vmem S640 .f32) (harg14 : arg14.IsWhole) (arg15 : Memref sig .tc .vmem S5x128 .f32) (harg15 : arg15.IsWhole) (arg16 : Memref sig .tc .vmem S1x20480 .f32) (harg16 : arg16.IsWhole) (arg17 : Memref sig .tc .vmem S1x640 .f32) (harg17 : arg17.IsWhole) (arg18 : Memref sig .tc .vmem S128x1 .f32) (harg18 : arg18.IsWhole) (arg19 : Memref sig .tc .vmem S5x1 .f32) (harg19 : arg19.IsWhole) (arg20 : Memref sig .tc .vmem S5x1 .f32) (harg20 : arg20.IsWhole) (hc0 : ¬cond0 i) (hc1 : ¬cond1 i) (hc2 : cond2 i) (hc3 : cond3 i) (hc4 : ¬cond4 i) (hc5 : cond5 i)
    (x0 : Vec 𝔽 S5x128 .f32) (x1 : Vec 𝔽 S856x1 .f32) (x2 : Vec 𝔽 S5x128 .f32) (x3 : Vec 𝔽 S256x128 .f32) (x4 : Vec 𝔽 S128 .f32) (x5 : Vec 𝔽 S5x5 .f32) (x6 : Vec 𝔽 S128x16 .f32) (x7 : Vec 𝔽 S128x128 .f32) (x8 : Vec 𝔽 S5x16 .f32) (x9 : Vec 𝔽 S1024x640 .f32) (x10 : Vec 𝔽 S1024x640 .f32) (x11 : Vec 𝔽 S1024x640 .f32) (x12 : Vec 𝔽 S1024x640 .f32) (x13 : Vec 𝔽 S640 .f32) (x14 : Vec 𝔽 S5x128 .f32) (x15 : Vec 𝔽 S1x20480 .f32) (x16 : Vec 𝔽 S1x640 .f32) (x17 : Vec 𝔽 S128x1 .f32) (x18 : Vec 𝔽 S5x1 .f32) (x19 : Vec 𝔽 S5x1 .f32) (hi : (i 0).val = 4)
    (e0 : x0 = a.x) (e2 : x2 = a.fft) (e3 : x3 = a.Wfuse) (e4 : x4 = a.bfuse) (e5 : x5 = a.Wtadj) (e6 : x6 = a.Wt) (e8 : x8 = a.Ws)
    (hcat : ∀ n (h : n < 20480), 2128 ≤ n → x15 (ix2 0 ⟨n, h⟩) = Spec.cat a (Spec.sf a) n) (h19 : x19 = (carried a 128).2) (e13 : x13 = a.bfcn)
    (w9 : ∀ (k : Fin 1024) o, x9 (ix2 k o) = Spec.wf a (0 + k.val) o)
    (w10 : ∀ (k : Fin 1024) o, x10 (ix2 k o) = Spec.wf a (0 + 1024 + k.val) o)
    (w11 : ∀ (k : Fin 1024) o, x11 (ix2 k o) = Spec.wf a (0 + 2048 + k.val) o)
    (w12 : ∀ (k : Fin 1024) o, x12 (ix2 k o) = Spec.wf a (0 + 3072 + k.val) o)
    (hacc : ∀ o, x16 (ix2 0 o) = Spec.part a (Spec.sf a) 4096 o) (r : Fin 5) (f : Fin 128) :
    arg15.view.read (Elt 𝔽) (arg15.view.writes (Elt 𝔽) (harg15.unread x14) (runC (F := 𝔽) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 x0 x1 x2 x3 x4 x5 x6 x7 x8 x9 x10 x11 x12 x13 x14 x15 x16 x17 x18 x19).1) (ix2 r f)
      = Spec.out a (Spec.sf a) r f := by
  have hC := runC_cat a c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 x0 x1 x2 x3 x4 x5 x6 x7 x8 x9 x10 x11 x12 x13 x14 x15 x16 x17 x18 x19 hi e0 e2 e3 e4 e5 e6 e8 hcat h19
  have hL : ∀ o : Fin 640, runC.sl.v38 (F := 𝔽) c i arg1 harg1 arg3 harg3 arg4 harg4 arg5 harg5 arg6 harg6 arg7 harg7 arg9 harg9 arg10 harg10 arg11 harg11 arg12 harg12 arg13 harg13 arg16 harg16 arg17 harg17 arg20 harg20 x0 x2 x3 x4 x5 x6 x8 x9 x10 x11 x12 x15 x16 x19 (ix2 0 o) = Spec.lin a (Spec.sf a) o := fun o => by
    delta runC.sl.v38 runC.sl.H16_1
    refine (congrFun (View.readCov_full _ _ _ _ _) _).trans ?_
    refine Eq.trans ?_ (Spec.part_zero a (Spec.sf a) o)
    refine acc_full a (Spec.sf a) 0 (by omega) _ _ _ _ _ _ _ _ _ o (fun k => ?_) (fun k => ?_) (fun k => ?_) (fun k => ?_) (fun k => ?_) (fun k => ?_) (fun k => ?_) (fun k => ?_) ?_
    · delta runC.sl.r_2
      have := k.isLt
      exact (readAtV arg16.view _ (k0_off3 i) _ 0 k 0 (0 + k.val) (by omega) (by omega)
        (by rw [k0_off3_eq]; rfl) (by rw [k0_off3_eq]; show _ = 16384 - 4096 * (i 0).val + k.val; omega)).trans (hC _ _)
    · delta runC.sl.v18
      have := k.isLt
      exact (readAtV arg16.view _ (k0_off4 i 1#32) _ 0 k 0 (0 + 1024 + k.val) (by omega) (by omega)
        (by rw [off4_1]; rfl) (by rw [off4_1]; show _ = 17408 - 4096 * (i 0).val + k.val; omega)).trans (hC _ _)
    · delta runC.sl.v23
      have := k.isLt
      exact (readAtV arg16.view _ (k0_off4 i 2#32) _ 0 k 0 (0 + 2048 + k.val) (by omega) (by omega)
        (by rw [off4_2]; rfl) (by rw [off4_2]; show _ = 18432 - 4096 * (i 0).val + k.val; omega)).trans (hC _ _)
    · delta runC.sl.v28
      have := k.isLt
      exact (readAtV arg16.view _ (k0_off4 i 3#32) _ 0 k 0 (0 + 3072 + k.val) (by omega) (by omega)
        (by rw [off4_3]; rfl) (by rw [off4_3]; show _ = 19456 - 4096 * (i 0).val + k.val; omega)).trans (hC _ _)
    · exact (congrFun ((View.readAt_full ..).trans (harg10.read_unread _)) _).trans (w9 k o)
    · exact (congrFun ((View.readAt_full ..).trans (harg11.read_unread _)) _).trans (w10 k o)
    · exact (congrFun ((View.readAt_full ..).trans (harg12.read_unread _)) _).trans (w11 k o)
    · exact (congrFun ((View.readAt_full ..).trans (harg13.read_unread _)) _).trans (w12 k o)
    · exact (congrFun ((View.readAt_full ..).trans (harg17.read_unread _)) _).trans (hacc o)
  unfold runC
  dsimp only
  have hb : View.readAt (Elt 𝔽) arg14.view (Rect.unit (s := S640) ![0] S640.size inb_S640_S640_0).toLoadRect (harg14.unread x13) = a.bfcn := ((View.readAt_full ..).trans (harg14.read_unread _)).trans e13
  have key : ∀ L, Rows arg15.view (harg15.unread x14) (Spec.out a (Spec.sf a)) 5 L → arg15.view.read (Elt 𝔽) (arg15.view.writes (Elt 𝔽) (harg15.unread x14) L) (ix2 r f) = Spec.out a (Spec.sf a) r f := fun L h => h r f r.isLt
  refine key _ ?_
  rw [hb]
  refine Rows.cons (by decide) (by decide) (fun c => (pay8_val _ _ c).trans (by rw [hL]; rfl)) ?_
  refine Rows.cons (by decide) (by decide) (fun c => (pay7_val _ _ c).trans (by rw [hL]; rfl)) ?_
  refine Rows.cons (by decide) (by decide) (fun c => (pay6_val _ _ c).trans (by rw [hL]; rfl)) ?_
  refine Rows.cons (by decide) (by decide) (fun c => (pay5_val _ _ c).trans (by rw [hL]; rfl)) ?_
  refine Rows.cons (by decide) (by decide) (fun c => (pay4_val _ _ c).trans (by rw [hL]; rfl)) ?_
  exact Rows.base

end Cert.KernelIdeal.Hand
end
-- ==== Proof.KernelIdealSteps.lean ====
module

public import proofs.«01_k».proof.Proof.KernelIdealPack
public import proofs.«01_k».proof.Proof.KernelIdealValA
public import proofs.«01_k».proof.Proof.KernelIdealValB
public import proofs.«01_k».proof.Proof.KernelIdealOutC

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

local notation "𝔽" => Idealize.ShloMosaic.Ideal

variable (m : (ℓ : Loc nD τ sig) → Buf (Elt 𝔽) ℓ) (ρ : Dev nD → PrngReg)

/-- What the scratch buffers hold before each point after the first: the row of features from column 2128 on, the
    accumulated row of the blocks so far, the station weights, and the recurrence's state and weighted sum. -/
def Kept (c : Dev nD) (n : ℕ) (xs : Scr 𝔽) : Prop :=
  1 ≤ n → n ≤ 4 →
    (∀ j (h : j < 20480), 2128 ≤ j → xs.1 (ix2 0 ⟨j, h⟩) = Spec.cat (argsOf m c) (Spec.sf (argsOf m c)) j)
    ∧ (∀ o, xs.2.1 (ix2 0 o) = Spec.part (argsOf m c) (Spec.sf (argsOf m c)) (20480 - 4096 * n) o)
    ∧ (∀ v : Fin 128, xs.2.2.1 (ix2 v 0) = Spec.vs (argsOf m c) v)
    ∧ xs.2.2.2.1 = (carried (argsOf m c) (32 * n)).1 ∧ xs.2.2.2.2 = (carried (argsOf m c) (32 * n)).2

/-- What the result's buffer holds after the last point. -/
def Made (c : Dev nD) (X : Vec 𝔽 S5x128 .f32) : Prop :=
  ∀ r f, X (ix2 r f) = Spec.out (argsOf m c) (Spec.sf (argsOf m c)) r f

/-- The first point establishes what the scratch holds. -/
theorem first_step (c : Dev nD) (t : Fin grid0.N) (ht : t.val = 0) (Y : Wins 𝔽) (xs : Scr 𝔽)
    (f1 : scM1.view.ty.Contents (Elt 𝔽)) (f2 : scM2.view.ty.Contents (Elt 𝔽)) (f3 : scM3.view.ty.Contents (Elt 𝔽)) (f4 : scM4.view.ty.Contents (Elt 𝔽))
    (hY : ∀ w, (rdat m (Kept m) (Made m) c).Finds w t (Y w)) : Kept m c 1 (nextA c t ht Y xs f1 f2 f3 f4) := by
  intro _ _
  have hi : (grid0.coords t 0).val = 0 := (coord0 t).trans ht
  have e5 := (win5_val m _ _ c t _ (hY 5))
  have e7 := (win7_val m _ _ c t _ (hY 7))
  have H : Cols (Y 1) (argsOf m c) := by rw [show Y 1 = _ from (win1_val m _ _ c t _ (hY 1))]; exact cols m c
  have hst := runA_state (argsOf m c) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) scM0 (Memref.isWhole_whole _) scM1 (Memref.isWhole_whole _) scM2 (Memref.isWhole_whole _) scM3 (Memref.isWhole_whole _) scM4 (Memref.isWhole_whole _) ((cond_iff t).1.mpr (by omega)) ((cond_iff t).2.1.mpr (by omega)) (fun h => absurd ((cond_iff t).2.2.1.mp h) (by omega)) (fun h => absurd ((cond_iff t).2.2.2.1.mp h) (by omega)) ((cond_iff t).2.2.2.2.1.mpr (by omega)) (fun h => absurd ((cond_iff t).2.2.2.2.2.mp h) (by omega)) (Y 0) (Y 1) (Y 2) (Y 3) (Y 4) (Y 5) (Y 6) (Y 7) (Y 8) (Y 9) (Y 10) (Y 11) (Y 12) (Y 13) (Y 14) xs.1 xs.2.1 xs.2.2.1 xs.2.2.2.1 xs.2.2.2.2 hi H e7 f3 f4
  refine ⟨fun j h h0 => ?_, fun o => ?_, fun v => ?_, ?_, ?_⟩
  · rw [← nextA_0]
    exact runA_cat (argsOf m c) (Spec.sf (argsOf m c)) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) scM0 (Memref.isWhole_whole _) scM1 (Memref.isWhole_whole _) scM2 (Memref.isWhole_whole _) scM3 (Memref.isWhole_whole _) scM4 (Memref.isWhole_whole _) ((cond_iff t).1.mpr (by omega)) ((cond_iff t).2.1.mpr (by omega)) (fun h => absurd ((cond_iff t).2.2.1.mp h) (by omega)) (fun h => absurd ((cond_iff t).2.2.2.1.mp h) (by omega)) ((cond_iff t).2.2.2.2.1.mpr (by omega)) (fun h => absurd ((cond_iff t).2.2.2.2.2.mp h) (by omega)) (Y 0) (Y 1) (Y 2) (Y 3) (Y 4) (Y 5) (Y 6) (Y 7) (Y 8) (Y 9) (Y 10) (Y 11) (Y 12) (Y 13) (Y 14) xs.1 xs.2.1 xs.2.2.1 xs.2.2.2.1 xs.2.2.2.2 e5 e7 j h h0 (Or.inl h)
  · rw [← nextA_1]
    refine runA_acc (argsOf m c) (Spec.sf (argsOf m c)) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) scM0 (Memref.isWhole_whole _) scM1 (Memref.isWhole_whole _) scM2 (Memref.isWhole_whole _) scM3 (Memref.isWhole_whole _) scM4 (Memref.isWhole_whole _) ((cond_iff t).1.mpr (by omega)) ((cond_iff t).2.1.mpr (by omega)) (fun h => absurd ((cond_iff t).2.2.1.mp h) (by omega)) (fun h => absurd ((cond_iff t).2.2.2.1.mp h) (by omega)) ((cond_iff t).2.2.2.2.1.mpr (by omega)) (fun h => absurd ((cond_iff t).2.2.2.2.2.mp h) (by omega)) (Y 0) (Y 1) (Y 2) (Y 3) (Y 4) (Y 5) (Y 6) (Y 7) (Y 8) (Y 9) (Y 10) (Y 11) (Y 12) (Y 13) (Y 14) xs.1 xs.2.1 xs.2.2.1 xs.2.2.2.1 xs.2.2.2.2 hi e5 e7 (fun k o => ?_) (fun k o => ?_) (fun k o hk => ?_) f1 o
    · exact (win9_val m _ _ c t _ (hY 9) k o).trans (by rw [ht])
    · exact (win10_val m _ _ c t _ (hY 10) k o).trans (by rw [ht])
    · exact (win11_val m _ _ c t _ (hY 11) k o (by omega)).trans (by rw [ht])
  · rw [← nextA_2]
    exact runA_vs (argsOf m c) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) scM0 (Memref.isWhole_whole _) scM1 (Memref.isWhole_whole _) scM2 (Memref.isWhole_whole _) scM3 (Memref.isWhole_whole _) scM4 (Memref.isWhole_whole _) ((cond_iff t).1.mpr (by omega)) ((cond_iff t).2.1.mpr (by omega)) (fun h => absurd ((cond_iff t).2.2.1.mp h) (by omega)) (fun h => absurd ((cond_iff t).2.2.2.1.mp h) (by omega)) ((cond_iff t).2.2.2.2.1.mpr (by omega)) (fun h => absurd ((cond_iff t).2.2.2.2.2.mp h) (by omega)) (Y 0) (Y 1) (Y 2) (Y 3) (Y 4) (Y 5) (Y 6) (Y 7) (Y 8) (Y 9) (Y 10) (Y 11) (Y 12) (Y 13) (Y 14) xs.1 xs.2.1 xs.2.2.1 xs.2.2.2.1 xs.2.2.2.2 e7 f2 v
  · rw [← nextA_3]
    exact hst.1
  · rw [← nextA_4]
    exact hst.2

/-- A point between carries it on. -/
theorem next_step (c : Dev nD) (t : Fin grid0.N) (h0 : 0 < t.val) (ht : t.val < 4) (Y : Wins 𝔽) (xs : Scr 𝔽)
    (hY : ∀ w, (rdat m (Kept m) (Made m) c).Finds w t (Y w)) (hx : Kept m c t.val xs) : Kept m c (t.val + 1) (nextB c t h0 ht Y xs) := by
  intro _ _
  have hi : (grid0.coords t 0).val = t.val := coord0 t
  have H : Cols (Y 1) (argsOf m c) := by rw [show Y 1 = _ from (win1_val m _ _ c t _ (hY 1))]; exact cols m c
  obtain ⟨hcat, hacc, hvs, h3, h4⟩ := hx (by omega) (by omega)
  have hst := runB_state (argsOf m c) (32 * t.val) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) scM0 (Memref.isWhole_whole _) scM1 (Memref.isWhole_whole _) scM2 (Memref.isWhole_whole _) scM3 (Memref.isWhole_whole _) scM4 (Memref.isWhole_whole _) (fun h => absurd ((cond_iff t).1.mp h) (by omega)) ((cond_iff t).2.1.mpr (by omega)) (fun h => absurd ((cond_iff t).2.2.1.mp h) (by omega)) ((cond_iff t).2.2.2.1.mpr (by omega)) (fun h => absurd ((cond_iff t).2.2.2.2.1.mp h) (by omega)) (fun h => absurd ((cond_iff t).2.2.2.2.2.mp h) (by omega)) (Y 0) (Y 1) (Y 2) (Y 3) (Y 4) (Y 5) (Y 6) (Y 7) (Y 8) (Y 9) (Y 10) (Y 11) (Y 12) (Y 13) (Y 14) xs.1 xs.2.1 xs.2.2.1 xs.2.2.2.1 xs.2.2.2.2 (by omega) (by omega) H hvs h3 h4
  refine ⟨hcat, fun o => ?_, hvs, ?_, ?_⟩
  · rw [← nextB_1]
    refine (runB_acc (argsOf m c) (Spec.sf (argsOf m c)) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) scM0 (Memref.isWhole_whole _) scM1 (Memref.isWhole_whole _) scM2 (Memref.isWhole_whole _) scM3 (Memref.isWhole_whole _) scM4 (Memref.isWhole_whole _) (fun h => absurd ((cond_iff t).1.mp h) (by omega)) ((cond_iff t).2.1.mpr (by omega)) (fun h => absurd ((cond_iff t).2.2.1.mp h) (by omega)) ((cond_iff t).2.2.2.1.mpr (by omega)) (fun h => absurd ((cond_iff t).2.2.2.2.1.mp h) (by omega)) (fun h => absurd ((cond_iff t).2.2.2.2.2.mp h) (by omega)) (Y 0) (Y 1) (Y 2) (Y 3) (Y 4) (Y 5) (Y 6) (Y 7) (Y 8) (Y 9) (Y 10) (Y 11) (Y 12) (Y 13) (Y 14) xs.1 xs.2.1 xs.2.2.1 xs.2.2.2.1 xs.2.2.2.2 (by omega) (by omega) hcat (fun k o => ?_) (fun k o => ?_) (fun k o => ?_) (fun k o => ?_) (fun o => ?_) o).trans ?_
    · exact (win9_val m _ _ c t _ (hY 9) k o).trans (by rw [hi])
    · exact (win10_val m _ _ c t _ (hY 10) k o).trans (by rw [hi])
    · exact (win11_val m _ _ c t _ (hY 11) k o (by omega)).trans (by rw [hi])
    · exact (win12_val m _ _ c t _ (hY 12) k o h0).trans (by rw [hi])
    · exact (hacc o).trans (congrArg (fun p => Spec.part _ _ p o) (by omega))
    · exact congrArg (fun p => Spec.part _ _ p o) (by omega)
  · rw [← nextB_3]
    exact hst.1
  · rw [← nextB_4]
    exact hst.2

/-- The last point makes the result. -/
theorem last_step (c : Dev nD) (t : Fin grid0.N) (ht : t.val = 4) (Y : Wins 𝔽) (xs : Scr 𝔽)
    (hY : ∀ w, (rdat m (Kept m) (Made m) c).Finds w t (Y w)) (hx : Kept m c 4 xs) : Made m c (outC c t ht Y xs) := by
  have hi : (grid0.coords t 0).val = 4 := (coord0 t).trans ht
  obtain ⟨hcat, hacc, hvs, h3, h4⟩ := hx (by omega) (by omega)
  intro r f
  unfold outC
  refine runC_out (argsOf m c) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) scM0 (Memref.isWhole_whole _) scM1 (Memref.isWhole_whole _) scM2 (Memref.isWhole_whole _) scM3 (Memref.isWhole_whole _) scM4 (Memref.isWhole_whole _) (fun h => absurd ((cond_iff t).1.mp h) (by omega)) (fun h => absurd ((cond_iff t).2.1.mp h) (by omega)) ((cond_iff t).2.2.1.mpr (by omega)) ((cond_iff t).2.2.2.1.mpr (by omega)) (fun h => absurd ((cond_iff t).2.2.2.2.1.mp h) (by omega)) ((cond_iff t).2.2.2.2.2.mpr (by omega)) (Y 0) (Y 1) (Y 2) (Y 3) (Y 4) (Y 5) (Y 6) (Y 7) (Y 8) (Y 9) (Y 10) (Y 11) (Y 12) (Y 13) (Y 14) xs.1 xs.2.1 xs.2.2.1 xs.2.2.2.1 xs.2.2.2.2 hi (win0_val m _ _ c t _ (hY 0)) (win2_val m _ _ c t _ (hY 2)) (win3_val m _ _ c t _ (hY 3)) (win4_val m _ _ c t _ (hY 4)) (win5_val m _ _ c t _ (hY 5)) (win6_val m _ _ c t _ (hY 6)) (win8_val m _ _ c t _ (hY 8)) hcat h4 (win13_val m _ _ c t _ (hY 13))
    (fun k o => ?_) (fun k o => ?_) (fun k o => ?_) (fun k o => ?_) (fun o => ?_) r f
  · exact (win9_val m _ _ c t _ (hY 9) k o).trans (by rw [ht])
  · exact (win10_val m _ _ c t _ (hY 10) k o).trans (by rw [ht])
  · exact (win11_val m _ _ c t _ (hY 11) k o (by omega)).trans (by rw [ht])
  · exact (win12_val m _ _ c t _ (hY 12) k o (by omega)).trans (by rw [ht])
  · exact hacc o

/-- So the body does what the run asks of it. -/
theorem steps : Steps m (Kept m) (Made m) where
  start c xs := fun h => absurd h (by omega)
  first := first_step m
  next := next_step m
  last c t ht Y xs hY hx := ⟨fun _ h => absurd h (by omega), last_step m c t ht Y xs hY hx⟩

end Cert.KernelIdeal.Hand
end
-- ==== Proof.KernelIdealValue.lean ====
module

public import proofs.«01_k».proof.Proof.KernelIdealSteps
public import Idealize.ShloMosaic.Lib.Pipeline.ArrRel
public import Idealize.ShloMosaic.Lib.Pipeline.ValueKit.Geometry

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

local notation "𝔽" => Idealize.ShloMosaic.Ideal

variable (m : (ℓ : Loc nD τ sig) → Buf (Elt 𝔽) ℓ) (ρ : Dev nD → PrngReg)

/-- The last grid point. -/
abbrev tLast : Fin grid0.N := ⟨4, by decide⟩

/-- The result's window is written back whole at the last point, and not after. -/
theorem whole14 : win0_14.WholeAt tLast := by decide +kernel

/-- The kernel's result, an entry for each station and feature. -/
def result (c : Dev nD) : Vec 𝔽 S5x128 .f32 := fun j => Spec.out (argsOf m c) (Spec.sf (argsOf m c)) (j 0) (j 1)

/-- At the run's end the result array holds it. -/
theorem result_holds (r : PUnit × MemSt nD τ sig (Elt 𝔽)) (h : RDat.FramePost cfg0 (rdat m (Kept m) (Made m)) (V m) r) (c : Dev nD) :
    r.2.mem ((c.tc : Thread nD τ).loc main_v0) = result m c := by
  obtain ⟨X, ⟨Y, -, hX⟩, hj⟩ := RDat.ArrAt.emb_eq_of_wholeAt ((h c).1 14) (t₀ := tLast) whole14
  have hM : Made m c X := hX rfl
  funext j
  refine (hj j).trans ?_
  idx_vars j
  exact hM _ _

/-- Every run of the kernel ends with that result and the arguments unchanged. -/
theorem value : θ_run defs (onTc (τ := τ) (main (F := 𝔽))) ⟨m, fun _ => 0, ρ⟩ (fun r => ∀ c : Dev nD,
     r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
) :=
  (θ_run defs _ _).mono (fun r h c => ⟨result_holds m r h.1 c, args_kept m _ _ r h.1 c⟩) (run_all m ρ _ _ (steps m))

end Cert.KernelIdeal.Hand
end
-- ==== Proof.RefPre.lean ====
module

public import proofs.«01_k».proof.Proof.RefFrame
public import proofs.«01_k».proof.Proof.Spec
public import Idealize.ShloMosaic.Lib.KernelVsHost

@[expose] public section

set_option maxRecDepth 16384

noncomputable section

namespace Cert.ReferenceIdeal.Hand

open Idealize.ShloMosaic Idealize.ShloMosaic.TcCoe Idealize.ShloMosaic.Tactic Idealize.SL.Sem Idealize.ShloMosaic.StableHlo
open Cert.ReferenceIdeal Cert.ReferenceIdeal.Gen Cert.ReferenceIdeal.Value

local notation "𝔽" => Idealize.ShloMosaic.Ideal

/-! # The reference before its loop -/

/-- A word's value at every place of a five by 128 block. -/
def all5 (b : BitVec 32) : FVec 𝔽 S5x128 .f32 := broadcastInDim S5x128 ![] bcast_S_S5x128 (constant (F := 𝔽) S_ .f32 b)

/-- The readings, with what is no number replaced. -/
def noNan (x : FVec 𝔽 S5x128 .f32) : FVec 𝔽 S5x128 .f32 := select (cmpf (F := 𝔽) .une x x) (all5 0x00000000#32) x
/-- The readings, with the positive infinity replaced. -/
def noTop (x : FVec 𝔽 S5x128 .f32) : FVec 𝔽 S5x128 .f32 := select (cmpf (F := 𝔽) .oeq x (all5 0x7F800000#32)) (all5 0x7F7FFFFF#32) x
/-- The readings, with the negative infinity replaced. -/
def noBot (x : FVec 𝔽 S5x128 .f32) : FVec 𝔽 S5x128 .f32 := select (cmpf (F := 𝔽) .oeq x (all5 0xFF800000#32)) (all5 0xFF7FFFFF#32) x

/-- The three replacements change no block of reals. -/
theorem cleaned (x : FVec 𝔽 S5x128 .f32) (hx : ∀ j, ∃ r : ℝ, x j = (r : EReal)) : noBot (noTop (noNan x)) = x := by
  have htop : Ideal.ofBits .f32 0x7F800000#32 = ⊤ := by simp [Ideal.ofBits, Ideal.ieee]
  have hbot : Ideal.ofBits .f32 0xFF800000#32 = ⊥ := by simp [Ideal.ofBits, Ideal.ieee]
  have h1 : noNan x = x := by
    funext j
    show Scalar.select (BitVec.ofBool (decide (x j ≠ x j))) _ (x j) = x j
    rw [decide_eq_false (fun h => h rfl)]
    rfl
  have h2 : noTop x = x := by
    funext j
    show Scalar.select (BitVec.ofBool (decide (x j = Ideal.ofBits .f32 0x7F800000#32))) _ (x j) = x j
    obtain ⟨r, hr⟩ := hx j
    rw [htop, decide_eq_false (by rw [hr]; exact EReal.coe_ne_top r)]
    rfl
  have h3 : noBot x = x := by
    funext j
    show Scalar.select (BitVec.ofBool (decide (x j = Ideal.ofBits .f32 0xFF800000#32))) _ (x j) = x j
    obtain ⟨r, hr⟩ := hx j
    rw [hbot, decide_eq_false (by rw [hr]; exact EReal.coe_ne_bot r)]
    rfl
  rw [h1, h2, h3]

/-- The frequency part, as the reference writes it. -/
def freqV (x fft : FVec 𝔽 S5x128 .f32) (W : FVec 𝔽 S256x128 .f32) (b : FVec 𝔽 S128 .f32) : FVec 𝔽 S5x128 .f32 :=
  maximumf (addf (Host.dotGeneral dot_S5x256_S256x128_S5x128_1_0_0_1_n_n none
      (concatenate S5x256 1 [⟨S5x128, x⟩, ⟨S5x128, fft⟩] concatenates_S5x128_S5x128_S5x256_d1 : FVec 𝔽 S5x256 .f32) W)
    (broadcastInDim S5x128 ![0, 1] bcast_S1x128_S5x128_0_1 (broadcastInDim S1x128 ![1] bcast_S128_S1x128_1 b))) (all5 0x00000000#32)

/-- The recurrence's inputs, as the reference writes them. -/
def timV (x : FVec 𝔽 S5x128 .f32) (W : FVec 𝔽 S5x5 .f32) (b : FVec 𝔽 S5 .f32) : FVec 𝔽 S128x5 .f32 :=
  maximumf (addf (Host.dotGeneral dot_S128x5_S5x5_S128x5_1_0_0_1_n_n none (transpose S128x5 [1, 0] x transposes_S5x128_S128x5_1_0 : FVec 𝔽 S128x5 .f32) W)
    (broadcastInDim S128x5 ![0, 1] bcast_S1x5_S128x5_0_1 (broadcastInDim S1x5 ![1] bcast_S5_S1x5_1 b)))
    (broadcastInDim S128x5 ![] bcast_S_S128x5 (constant (F := 𝔽) S_ .f32 0x00000000#32))

variable (V : Valuation τ sig (Elt 𝔽))

set_option maxHeartbeats 2000000 in
/-- The frequency part is made of the arguments. -/
theorem pre_freq : afterL preI V (Proc.devRef .tc main_v6)
    = freqV (noBot (noTop (noNan (V (Proc.devRef .tc main_arg0))))) (V (Proc.devRef .tc main_arg1)) (V (Proc.devRef .tc main_arg2)) (V (Proc.devRef .tc main_arg3)) := by
  rfl

set_option maxHeartbeats 2000000 in
/-- The recurrence's inputs are made of the arguments. -/
theorem pre_tim : afterL preI V (Proc.devRef .tc main_v15_0)
    = timV (noBot (noTop (noNan (V (Proc.devRef .tc main_arg0))))) (V (Proc.devRef .tc main_arg4)) (V (Proc.devRef .tc main_arg5)) := by
  rfl

set_option maxHeartbeats 2000000 in
/-- The input weights enter the loop as given. -/
theorem pre_wih : afterL preI V (Proc.devRef .tc main_v15_1) = V (Proc.devRef .tc main_arg6) := by
  rfl
set_option maxHeartbeats 2000000 in
/-- The input bias enters the loop as given. -/
theorem pre_bih : afterL preI V (Proc.devRef .tc main_v15_2) = V (Proc.devRef .tc main_arg8) := by
  rfl
set_option maxHeartbeats 2000000 in
/-- The state weights enter the loop as given. -/
theorem pre_whh : afterL preI V (Proc.devRef .tc main_v15_3) = V (Proc.devRef .tc main_arg7) := by
  rfl
set_option maxHeartbeats 2000000 in
/-- The state bias enters the loop as given. -/
theorem pre_bhh : afterL preI V (Proc.devRef .tc main_v15_4) = V (Proc.devRef .tc main_arg9) := by
  rfl
set_option maxHeartbeats 2000000 in
/-- The first state is zero. -/
theorem pre_state : afterL preI V (Proc.devRef .tc main_v15_6) = broadcastInDim S5 ![] bcast_S_S5 (constant (F := 𝔽) S_ .f32 0x00000000#32) := by
  rfl

/-- The frequency part is the specification's. -/
theorem freqV_val (a : Spec.Args) (w : Fin 5) (f : Fin 128) : freqV a.x a.fft a.Wfuse a.bfuse (ix2 w f) = Spec.freq a w f := by
  have h : freqV a.x a.fft a.Wfuse a.bfuse (ix2 w f)
      = max ((∑ k : Fin (128 + 128), (concatenate S5x256 1 [⟨S5x128, a.x⟩, ⟨S5x128, a.fft⟩] concatenates_S5x128_S5x128_S5x256_d1 : FVec 𝔽 S5x256 .f32) (ix2 w k) * a.Wfuse (ix2 k f))
        + a.bfuse (ix1 f)) 0 := by
    pointwise [freqV, all5]
  rw [h, Fin.sum_univ_add]
  unfold Spec.freq
  congr 2
  refine congrArg₂ (· + ·) (Finset.sum_congr rfl fun k _ => ?_) (Finset.sum_congr rfl fun k _ => ?_)
  · refine congrArg₂ (· * ·) (concatenate_apply_piece (t := S5x256) 1 _ _ (ix2 w ⟨k.val, by omega⟩) 0 (by show 0 < 2; decide) S5x128 _ rfl rfl 0 rfl (ix2 w k) ?_ ?_) rfl
    · intro b hb
      fin_cases b
      · rfl
      · exact absurd rfl hb
    · exact Nat.zero_add _
  · refine congrArg₂ (· * ·) (concatenate_apply_piece (t := S5x256) 1 _ _ (ix2 w ⟨128 + k.val, by omega⟩) 1 (by show 1 < 2; decide) S5x128 _ rfl rfl 128 rfl (ix2 w k) ?_ ?_) rfl
    · intro b hb
      fin_cases b
      · rfl
      · exact absurd rfl hb
    · rfl

/-- The recurrence's inputs are the specification's. -/
theorem timV_val (a : Spec.Args) (t : Fin 128) (k : Fin 5) : timV a.x a.Wtime a.btime (ix2 t k) = Spec.tim a t.val k := by
  unfold Spec.tim
  rw [show Spec.ft t.val = t from Fin.ext (Nat.mod_eq_of_lt t.isLt)]
  pointwise [timV]

end Cert.ReferenceIdeal.Hand

end
-- ==== Proof.RefLoop.lean ====
module

public import proofs.«01_k».proof.Proof.RefFrame
public import proofs.«01_k».proof.Proof.Spec
public import Idealize.ShloMosaic.Lib.KernelVsHost
public import Idealize.ShloMosaic.Lib.WordCmp

@[expose] public section

set_option maxRecDepth 16384

noncomputable section

namespace Cert.ReferenceIdeal.Hand

open Idealize.ShloMosaic Idealize.ShloMosaic.TcCoe Idealize.ShloMosaic.Tactic Idealize.SL.Sem Idealize.ShloMosaic.StableHlo
open Cert.ReferenceIdeal Cert.ReferenceIdeal.Gen Cert.ReferenceIdeal.Value

local notation "𝔽" => Idealize.ShloMosaic.Ideal

/-! # The reference's loop -/

/-- Before trip `k` the counter's word is `k`. -/
theorem ctr_int : ∀ k : Fin 128, (Scf.iv 0#32 1#32 k.val : BitVec 32).toInt = ((k.val : ℕ) : ℤ) := by decide +kernel

/-- Row `k` of a block, at the offsets a counter `k` makes. -/
theorem row_val (X : FVec 𝔽 S128x5 .f32) (k : Fin 128) (st : Fin 2 → ℤ) (h0 : st 0 = ((k.val : ℕ) : ℤ)) (h1 : st 1 = 0) (w : Fin 5) :
    shapeCast S5 (Host.dynamicSlice S1x5 X st sliceFits_S128x5_S1x5) shapeCasts_S1x5_S5 (ix1 w) = X (ix2 k w) := by
  have hs : S128x5.Slices ![k.val, 0] S1x5 := ⟨rfl, fun b => by
    fin_cases b
    · show k.val + 1 ≤ 128
      omega
    · show 0 + 5 ≤ 5
      omega⟩
  rw [WordCmp.dynamicSlice_eq_extract S1x5 X st sliceFits_S128x5_S1x5 ![k.val, 0] hs (fun b => by
    fin_cases b
    · exact h0
    · exact h1)]
  refine (shapeCast_apply _ _ _ (ix2 0 w) ?_).trans ?_
  · rw [Shape.rowMajor_val_two, Shape.rowMajor_val_one]
    show 0 * 5 + w.val = w.val
    omega
  · pointwise []

/-- Row `k` replaced, at the offsets a counter `k` makes. -/
theorem put_val (X : FVec 𝔽 S128x5 .f32) (h : FVec 𝔽 S5 .f32) (k : Fin 128) (st : Fin 2 → ℤ) (h0 : st 0 = ((k.val : ℕ) : ℤ)) (h1 : st 1 = 0)
    (t : Fin 128) (w : Fin 5) :
    Host.dynamicUpdateSlice X (broadcastInDim S1x5 ![1] bcast_S5_S1x5_1 h) st updateFits_S128x5_S1x5 (ix2 t w)
      = if t = k then h (ix1 w) else X (ix2 t w) := by
  have hs : S128x5.Slices ![k.val, 0] S1x5 := ⟨rfl, fun b => by
    fin_cases b
    · show k.val + 1 ≤ 128
      omega
    · show 0 + 5 ≤ 5
      omega⟩
  rw [WordCmp.dynamicUpdateSlice_eq_update X _ st updateFits_S128x5_S1x5 ![k.val, 0] hs (fun b => by
    fin_cases b
    · exact h0
    · exact h1)]
  unfold updateSlice
  by_cases e : t = k
  · subst e
    rw [if_pos rfl, dif_pos (fun b => by
      fin_cases b
      · exact ⟨Nat.le_refl t.val, Nat.lt_succ_self t.val⟩
      · exact ⟨Nat.zero_le w.val, (by show w.val < 0 + 5; omega : w.val < 0 + 5)⟩)]
    pointwise []
  · rw [if_neg e, dif_neg (fun hin => e (Fin.ext (by
      have h2 : k.val ≤ t.val ∧ t.val < k.val + 1 := hin 0
      omega)))]

/-- What is carried before trip `k`: the weights and inputs, the state after `k` steps, and the states so far. -/
structure Carry (a : Spec.Args) (k : ℕ) (X : Valuation τ sig (Elt 𝔽)) : Prop where
  tim : ∀ (t : Fin 128) (w : Fin 5), (X (Proc.devRef .tc main_v15_0) : FVec 𝔽 S128x5 .f32) (ix2 t w) = Spec.tim a t.val w
  wih : X (Proc.devRef .tc main_v15_1) = a.Wih
  bih : X (Proc.devRef .tc main_v15_2) = a.bih
  whh : X (Proc.devRef .tc main_v15_3) = a.Whh
  bhh : X (Proc.devRef .tc main_v15_4) = a.bhh
  ctr : X (Proc.devRef .tc main_v15_5) = fun _ => (Scf.iv 0#32 1#32 k : BitVec 32)
  hid : ∀ w : Fin 5, (X (Proc.devRef .tc main_v15_6) : FVec 𝔽 S5 .f32) (ix1 w) = Spec.hid a k w
  outs : ∀ (t : Fin 128) (w : Fin 5), t.val < k → (X (Proc.devRef .tc main_v15_7) : FVec 𝔽 S128x5 .f32) (ix2 t w) = Spec.hid a (t.val + 1) w

variable {a : Spec.Args} {X : Valuation τ sig (Elt 𝔽)}

/-- The counter's two offsets. -/
theorem offsets (k : Fin 128) (h : X (Proc.devRef .tc main_v15_5) = fun _ => (Scf.iv 0#32 1#32 k.val : BitVec 32)) :
    (((![X (Proc.devRef .tc main_v15_5), constantI S_ 32 0#32] : Fin 2 → (⟨S_, .i32⟩ : BufTy).Contents (Elt 𝔽))) 0 (Shape.Idx.first h_S_)).toInt = ((k.val : ℕ) : ℤ)
      ∧ (((![X (Proc.devRef .tc main_v15_5), constantI S_ 32 0#32] : Fin 2 → (⟨S_, .i32⟩ : BufTy).Contents (Elt 𝔽))) 1 (Shape.Idx.first h_S_)).toInt = 0 := by
  refine ⟨?_, rfl⟩
  rw [h]
  exact ctr_int k

/-- A gate's product and bias, for any row read from the left factor's columns. -/
theorem gate_val (W : FVec 𝔽 S15x5 .f32) (y : FVec 𝔽 S5 .f32) (b : FVec 𝔽 S15 .f32) (r : Fin 15) :
    addf (Host.dotGeneral dot_S15x5_S5_S15_1_0_0_n_n_n none W y : FVec 𝔽 S15 .f32) b (ix1 r) = (∑ m : Fin 5, W (ix2 r m) * y (ix1 m)) + b (ix1 r) := by
  pointwise []

/-- The input's part of a gate. -/
theorem gi_val (k : Fin 128) (h : Carry a k.val X) (g : Fin 3) (w : Fin 5) :
    (res_main_while0b_v47 X : FVec 𝔽 S15 .f32) (ix1 (Spec.gate g w)) = Spec.gi a k.val g w := by
  unfold res_main_while0b_v47
  refine (gate_val _ _ _ _).trans ?_
  unfold Spec.gi
  rw [h.wih, h.bih]
  obtain ⟨o0, o1⟩ := offsets k h.ctr
  refine congrArg (· + _) (Finset.sum_congr rfl fun i _ => congrArg (_ * ·) ?_)
  exact (row_val _ k _ o0 o1 i).trans (h.tim k i)

/-- The state's part of a gate. -/
theorem gh_val (k : ℕ) (h : Carry a k X) (g : Fin 3) (w : Fin 5) :
    (res_main_while0b_v49 X : FVec 𝔽 S15 .f32) (ix1 (Spec.gate g w)) = Spec.gh a (Spec.hid a k) g w := by
  unfold res_main_while0b_v49
  refine (gate_val _ _ _ _).trans ?_
  unfold Spec.gh
  rw [h.whh, h.bhh]
  exact congrArg (· + _) (Finset.sum_congr rfl fun i _ => congrArg (_ * ·) (h.hid i))

/-- A gate's rows. -/
theorem cut_val (p : FVec 𝔽 S15 .f32) (n : ℕ) (g : Fin 3) (hn : n = 5 * g.val) (hs : S15.Slices ![n] S5) (w : Fin 5) :
    extractStridedSlice S5 ![n] p hs (ix1 w) = p (ix1 (Spec.gate g w)) := by
  subst hn
  unfold extractStridedSlice
  exact congrArg p (funext fun b => by fin_cases b; rfl)

/-- One over one plus the exponential of the negation, of a sum of two parts of fifteen rows, is the logistic. -/
theorem sig_val (p q : FVec 𝔽 S15 .f32) (n : ℕ) (g : Fin 3) (hn : n = 5 * g.val) (hs : S15.Slices ![n] S5) (w : Fin 5) :
    (Host.divf (broadcastInDim S5 ![] bcast_S_S5 (constant (F := 𝔽) S_ .f32 0x3F800000#32)) (addf (broadcastInDim S5 ![] bcast_S_S5 (constant (F := 𝔽) S_ .f32 0x3F800000#32))
      (Host.exp (Host.negf (addf (extractStridedSlice S5 ![n] p hs) (extractStridedSlice S5 ![n] q hs))))) : FVec 𝔽 S5 .f32) (ix1 w)
      = Ideal.logistic (p (ix1 (Spec.gate g w)) + q (ix1 (Spec.gate g w))) := by
  subst hn
  show Ideal.div (Ideal.ofBits .f32 0x3F800000#32) (Ideal.ofBits .f32 0x3F800000#32 + Ideal.exp (-(extractStridedSlice S5 ![5 * g.val] p hs (ix1 w) + extractStridedSlice S5 ![5 * g.val] q hs (ix1 w)))) = _
  rw [Ideal.ofBits_one_f32, cut_val p _ g rfl hs w, cut_val q _ g rfl hs w]
  rfl

/-- The update gate. -/
theorem zg_val (k : Fin 128) (h : Carry a k.val X) (w : Fin 5) :
    (res_main_while0b_v67 X : FVec 𝔽 S5 .f32) (ix1 w) = Spec.zg a k.val (Spec.hid a k.val) w := by
  unfold res_main_while0b_v67
  refine (sig_val _ _ 5 1 rfl _ w).trans ?_
  rw [gi_val k h, gh_val k.val h]
  rfl

/-- The mix of the candidate and the state. -/
theorem mix_val (z p r q h : FVec 𝔽 S5 .f32) (w : Fin 5) :
    (addf (mulf (subf (broadcastInDim S5 ![] bcast_S_S5 (constant (F := 𝔽) S_ .f32 0x3F800000#32)) z) (Host.tanh (addf p (mulf r q)))) (mulf z h) : FVec 𝔽 S5 .f32) (ix1 w)
      = (1 - z (ix1 w)) * Ideal.tanh (p (ix1 w) + r (ix1 w) * q (ix1 w)) + z (ix1 w) * h (ix1 w) := by
  pointwise []

/-- The next state. -/
theorem next_val (k : Fin 128) (h : Carry a k.val X) (w : Fin 5) :
    (res_main_while0b_v77 X : FVec 𝔽 S5 .f32) (ix1 w) = Spec.hid a (k.val + 1) w := by
  unfold res_main_while0b_v77
  have hr := sig_val (res_main_while0b_v47 X) (res_main_while0b_v49 X) 0 0 rfl slices_S15_S5_0 w
  rw [gi_val k h, gh_val k.val h] at hr
  have hn := (cut_val (res_main_while0b_v47 X) 10 2 rfl slices_S15_S5_10 w).trans (gi_val k h 2 w)
  have hm := (cut_val (res_main_while0b_v49 X) 10 2 rfl slices_S15_S5_10 w).trans (gh_val k.val h 2 w)
  have hz := zg_val k h w
  have hh := h.hid w
  refine (mix_val _ _ _ _ _ w).trans ?_
  rw [hr, hn, hm, hz, hh]
  rfl

/-- One trip carries on. -/
theorem carry_step (k : Fin 128) (h : Carry a k.val X) (hc : afterL bodyI (after condOps X) (Proc.devRef .tc main_v15_5) = fun _ => (Scf.iv 0#32 1#32 (k.val + 1) : BitVec 32)) :
    Carry a (k.val + 1) (afterL bodyI (after condOps X)) := by
  have ha := trip_agree X
  have e0 := (ha main_v15_0 (by decide)).trans (STEP_main_v15_0 X)
  have e6 := (ha main_v15_6 (by decide)).trans (STEP_main_v15_6 X)
  have e7 := (ha main_v15_7 (by decide)).trans (STEP_main_v15_7 X)
  refine ⟨fun t w => (congrFun e0 _).trans (h.tim t w), ((ha main_v15_1 (by decide)).trans (STEP_main_v15_1 X)).trans h.wih,
    ((ha main_v15_2 (by decide)).trans (STEP_main_v15_2 X)).trans h.bih, ((ha main_v15_3 (by decide)).trans (STEP_main_v15_3 X)).trans h.whh,
    ((ha main_v15_4 (by decide)).trans (STEP_main_v15_4 X)).trans h.bhh, hc,
    fun w => (congrFun e6 _).trans (next_val k h w), fun t w ht => (congrFun e7 _).trans ?_⟩
  obtain ⟨o0, o1⟩ := offsets k h.ctr
  refine (put_val _ _ k _ o0 o1 t w).trans ?_
  by_cases e : t = k
  · subst e
    rw [if_pos rfl]
    exact next_val t h w
  · rw [if_neg e]
    exact h.outs t w (by have : t.val ≠ k.val := fun q => e (Fin.ext q); omega)

/-- Before every trip, and after the last, the loop carries what it should. -/
theorem carry (m : (ℓ : Loc nD τ sig) → Buf (Elt 𝔽) ℓ) (c : Dev nD) (h : Carry a 0 (atK m 0 c)) : ∀ k, k ≤ 128 → Carry a k (atK m k c)
  | 0, _ => h
  | k + 1, hk => carry_step ⟨k, by omega⟩ (carry m c h k (by omega)) (atK_ctr m c (k + 1))

end Cert.ReferenceIdeal.Hand

end
-- ==== Proof.RefPost.lean ====
module

public import proofs.«01_k».proof.Proof.RefFrame
public import proofs.«01_k».proof.Proof.Spec
public import Idealize.ShloMosaic.Lib.KernelVsHost
public import Idealize.ShloMosaic.Lib.WordCmp

@[expose] public section

set_option maxRecDepth 16384

noncomputable section

namespace Cert.ReferenceIdeal.Hand

open Idealize.ShloMosaic Idealize.ShloMosaic.TcCoe Idealize.ShloMosaic.Tactic Idealize.SL.Sem Idealize.ShloMosaic.StableHlo
open Cert.ReferenceIdeal Cert.ReferenceIdeal.Gen Cert.ReferenceIdeal.Value

local notation "𝔽" => Idealize.ShloMosaic.Ideal

/-! # The reference after its loop -/

/-- The temporal adjacency, as the reference writes it. -/
def tAdj (W : FVec 𝔽 S5x5 .f32) : FVec 𝔽 S5x5 .f32 :=
  Host.divf (broadcastInDim S5x5 ![] bcast_S_S5x5 (constant (F := 𝔽) S_ .f32 0x3F800000#32))
    (addf (broadcastInDim S5x5 ![] bcast_S_S5x5 (constant (F := 𝔽) S_ .f32 0x3F800000#32)) (Host.exp (Host.negf
      (Host.dotGeneral dot_S5x5_S5x5_S5x5_1_0_0_1_n_n none (broadcastInDim S5x5 ![] bcast_S_S5x5 (constant (F := 𝔽) S_ .f32 0x3F800000#32)) W : FVec 𝔽 S5x5 .f32))))

/-- The static adjacency, as the reference writes it. -/
def sAdj (W : FVec 𝔽 S128x128 .f32) : FVec 𝔽 S128x128 .f32 :=
  Host.divf (broadcastInDim S128x128 ![] bcast_S_S128x128 (constant (F := 𝔽) S_ .f32 0x3F800000#32))
    (addf (broadcastInDim S128x128 ![] bcast_S_S128x128 (constant (F := 𝔽) S_ .f32 0x3F800000#32)) (Host.exp (Host.negf
      (Host.dotGeneral dot_S128x128_S128x128_S128x128_1_0_0_1_n_n none (broadcastInDim S128x128 ![] bcast_S_S128x128 (constant (F := 𝔽) S_ .f32 0x3F800000#32)) W : FVec 𝔽 S128x128 .f32))))

/-- The temporal features. -/
def tFeat (A : FVec 𝔽 S5x5 .f32) (y : FVec 𝔽 S5x128 .f32) (W : FVec 𝔽 S128x16 .f32) : FVec 𝔽 S5x16 .f32 :=
  Host.dotGeneral dot_S5x5_S5x16_S5x16_1_0_0_1_n_n none A (Host.dotGeneral dot_S5x128_S128x16_S5x16_1_0_0_1_n_n none y W : FVec 𝔽 S5x16 .f32)

/-- The spatial features. -/
def sFeat (A : FVec 𝔽 S128x128 .f32) (y : FVec 𝔽 S128x5 .f32) (W : FVec 𝔽 S5x16 .f32) : FVec 𝔽 S128x16 .f32 :=
  Host.dotGeneral dot_S128x128_S128x16_S128x16_1_0_0_1_n_n none A (Host.dotGeneral dot_S128x5_S5x16_S128x16_1_0_0_1_n_n none y W : FVec 𝔽 S128x16 .f32)

/-- The row of features. -/
def catV (p : FVec 𝔽 S5x16 .f32) (q : FVec 𝔽 S128x16 .f32) (r : FVec 𝔽 S5x5 .f32) (s : FVec 𝔽 S128x128 .f32) : FVec 𝔽 S18537 .f32 :=
  concatenate S18537 0 [⟨S80, shapeCast S80 p shapeCasts_S5x16_S80⟩, ⟨S2048, shapeCast S2048 q shapeCasts_S128x16_S2048⟩,
    ⟨S25, shapeCast S25 r shapeCasts_S5x5_S25⟩, ⟨S16384, shapeCast S16384 s shapeCasts_S128x128_S16384⟩] concatenates_S80_S2048_S25_S16384_S18537_d0

/-- The result's row. -/
def rowV (u : FVec 𝔽 S18537 .f32) (W : FVec 𝔽 S18537x640 .f32) (b : FVec 𝔽 S640 .f32) : FVec 𝔽 S640 .f32 :=
  maximumf (addf (Host.dotGeneral dot_S18537_S18537x640_S640_0_0_n_1_n_n none u W : FVec 𝔽 S640 .f32) b) (broadcastInDim S640 ![] bcast_S_S640 (constant (F := 𝔽) S_ .f32 0x00000000#32))

set_option maxHeartbeats 4000000 in
/-- The result is made of the loop's states, the frequency part and the arguments. -/
theorem post_out (V : Valuation τ sig (Elt 𝔽)) : afterL postI V (Proc.devRef .tc main_v44)
    = shapeCast S5x128 (rowV (catV (tFeat (tAdj (V (Proc.devRef .tc main_arg10))) (V (Proc.devRef .tc main_v6)) (V (Proc.devRef .tc main_arg11)))
        (sFeat (sAdj (V (Proc.devRef .tc main_arg12))) (V (Proc.devRef .tc main_v15_7)) (V (Proc.devRef .tc main_arg13)))
        (tAdj (V (Proc.devRef .tc main_arg10))) (sAdj (V (Proc.devRef .tc main_arg12)))) (V (Proc.devRef .tc main_arg14)) (V (Proc.devRef .tc main_arg15))) shapeCasts_S640_S5x128 := by
  rfl

/-- One over one plus the exponential of the negation. -/
theorem logistic_of (x : EReal) : Ideal.div (Ideal.ofBits .f32 0x3F800000#32) (Ideal.ofBits .f32 0x3F800000#32 + Ideal.exp (-x)) = Ideal.logistic x := by
  rw [Ideal.ofBits_one_f32]
  rfl

/-- Every row of the temporal adjacency is the specification's. -/
theorem tAdj_val (a : Spec.Args) (i v : Fin 5) : tAdj a.Wtadj (ix2 i v) = Spec.vt a v := by
  have h : (Host.dotGeneral (φ₂ := .f32) dot_S5x5_S5x5_S5x5_1_0_0_1_n_n none (broadcastInDim S5x5 ![] bcast_S_S5x5 (constant (F := 𝔽) S_ .f32 0x3F800000#32)) (a.Wtadj : FVec 𝔽 S5x5 .f32) : FVec 𝔽 S5x5 .f32) (ix2 i v)
      = ∑ k : Fin 5, a.Wtadj (ix2 k v) := by
    pointwise []
  exact (logistic_of _).trans (congrArg Ideal.logistic h)

/-- Every row of the static adjacency is the specification's. -/
theorem sAdj_val (a : Spec.Args) (i v : Fin 128) : sAdj a.Wsadj (ix2 i v) = Spec.vs a v := by
  have h : (Host.dotGeneral (φ₂ := .f32) dot_S128x128_S128x128_S128x128_1_0_0_1_n_n none (broadcastInDim S128x128 ![] bcast_S_S128x128 (constant (F := 𝔽) S_ .f32 0x3F800000#32)) (a.Wsadj : FVec 𝔽 S128x128 .f32) : FVec 𝔽 S128x128 .f32) (ix2 i v)
      = ∑ k : Fin 128, a.Wsadj (ix2 k v) := by
    pointwise []
  exact (logistic_of _).trans (congrArg Ideal.logistic h)

/-- Every row of the temporal features is the specification's. -/
theorem tFeat_val (a : Spec.Args) (A : FVec 𝔽 S5x5 .f32) (y : FVec 𝔽 S5x128 .f32) (hA : ∀ i v, A (ix2 i v) = Spec.vt a v)
    (hy : ∀ w f, y (ix2 w f) = Spec.freq a w f) (i : Fin 5) (k : Fin 16) : tFeat A y a.Wt (ix2 i k) = Spec.tf a k := by
  have h : tFeat A y a.Wt (ix2 i k) = ∑ w : Fin 5, A (ix2 i w) * ∑ f : Fin 128, y (ix2 w f) * a.Wt (ix2 f k) := by
    pointwise [tFeat]
  rw [h]
  unfold Spec.tf
  simp only [hA, hy]

/-- Every row of the spatial features is the specification's, as the reference orders the products. -/
theorem sFeat_val (a : Spec.Args) (A : FVec 𝔽 S128x128 .f32) (y : FVec 𝔽 S128x5 .f32) (hA : ∀ i v, A (ix2 i v) = Spec.vs a v)
    (hy : ∀ (t : Fin 128) (w : Fin 5), y (ix2 t w) = Spec.hid a (t.val + 1) w) (i : Fin 128) (k : Fin 16) : sFeat A y a.Ws (ix2 i k) = Spec.sfR a k := by
  have h : sFeat A y a.Ws (ix2 i k) = ∑ t : Fin 128, A (ix2 i t) * ∑ w : Fin 5, y (ix2 t w) * a.Ws (ix2 w k) := by
    pointwise [sFeat]
  rw [h]
  unfold Spec.sfR
  simp only [hA, hy]

/-- A block of `p` rows of `q` laid out in one row is read at the quotient and the remainder. -/
theorem flat_val {p q n : ℕ} (X : FVec 𝔽 ⟨2, ![p, q]⟩ .f32) (h : (⟨2, ![p, q]⟩ : Shape).ShapeCasts ⟨1, ![n]⟩) (i : ℕ) (hi : i < n) (r : Fin p) (k : Fin q)
    (e : r.val * q + k.val = i) : shapeCast ⟨1, ![n]⟩ X h (ix1 ⟨i, hi⟩) = X (ix2 r k) := by
  refine shapeCast_apply _ _ _ _ ?_
  rw [Shape.rowMajor_val_two, Shape.rowMajor_val_one]
  exact e

/-- The row of features is the specification's, its second part as the reference orders the products. -/
theorem catV_val (a : Spec.Args) (p : FVec 𝔽 S5x16 .f32) (q : FVec 𝔽 S128x16 .f32) (r : FVec 𝔽 S5x5 .f32) (s : FVec 𝔽 S128x128 .f32)
    (hp : ∀ i k, p (ix2 i k) = Spec.tf a k) (hq : ∀ i k, q (ix2 i k) = Spec.sfR a k) (hr : ∀ i v, r (ix2 i v) = Spec.vt a v)
    (hs : ∀ i v, s (ix2 i v) = Spec.vs a v) (n : ℕ) (hn : n < 18537) : catV p q r s (ix1 ⟨n, hn⟩) = Spec.cat a (Spec.sfR a) n := by
  unfold Spec.cat
  by_cases h0 : n < 80
  · rw [if_pos h0]
    refine (concatenate_apply_piece (t := S18537) 0 _ _ (ix1 ⟨n, hn⟩) 0 (by show 0 < 4; decide) S80 _ rfl rfl 0 rfl (ix1 ⟨n, h0⟩) (fun b hb => absurd (Subsingleton.elim _ _) hb) (Nat.zero_add n)).trans ?_
    exact (flat_val p _ n h0 ⟨n / 16, by omega⟩ ⟨n % 16, by omega⟩ (by show n / 16 * 16 + n % 16 = n; omega)).trans (hp _ _)
  rw [if_neg h0]
  by_cases h1 : n < 2128
  · rw [if_pos h1]
    refine (concatenate_apply_piece (t := S18537) 0 _ _ (ix1 ⟨n, hn⟩) 1 (by show 1 < 4; decide) S2048 _ rfl rfl 80 rfl (ix1 ⟨n - 80, by omega⟩) (fun b hb => absurd (Subsingleton.elim _ _) hb)
      (show 80 + (n - 80) = n by omega)).trans ?_
    exact (flat_val q _ (n - 80) (by omega) ⟨(n - 80) / 16, by omega⟩ ⟨(n - 80) % 16, by omega⟩ (by show (n - 80) / 16 * 16 + (n - 80) % 16 = n - 80; omega)).trans (hq _ _)
  rw [if_neg h1]
  by_cases h2 : n < 2153
  · rw [if_pos h2]
    refine (concatenate_apply_piece (t := S18537) 0 _ _ (ix1 ⟨n, hn⟩) 2 (by show 2 < 4; decide) S25 _ rfl rfl 2128 rfl (ix1 ⟨n - 2128, by omega⟩) (fun b hb => absurd (Subsingleton.elim _ _) hb)
      (show 2128 + (n - 2128) = n by omega)).trans ?_
    exact (flat_val r _ (n - 2128) (by omega) ⟨(n - 2128) / 5, by omega⟩ ⟨(n - 2128) % 5, by omega⟩ (by show (n - 2128) / 5 * 5 + (n - 2128) % 5 = n - 2128; omega)).trans (hr _ _)
  rw [if_neg h2, if_pos hn]
  refine (concatenate_apply_piece (t := S18537) 0 _ _ (ix1 ⟨n, hn⟩) 3 (by show 3 < 4; decide) S16384 _ rfl rfl 2153 rfl (ix1 ⟨n - 2153, by omega⟩) (fun b hb => absurd (Subsingleton.elim _ _) hb)
    (show 2153 + (n - 2153) = n by omega)).trans ?_
  exact (flat_val s _ (n - 2153) (by omega) ⟨(n - 2153) / 128, by omega⟩ ⟨(n - 2153) % 128, by omega⟩ (by show (n - 2153) / 128 * 128 + (n - 2153) % 128 = n - 2153; omega)).trans (hs _ _)

/-- The result's row is the specification's sum, biased and cut at zero. -/
theorem rowV_val (a : Spec.Args) (u : FVec 𝔽 S18537 .f32) (hu : ∀ (n : ℕ) (hn : n < 18537), u (ix1 ⟨n, hn⟩) = Spec.cat a (Spec.sfR a) n) (o : Fin 640) :
    rowV u a.Wfcn a.bfcn (ix1 o) = max (Spec.lin a (Spec.sfR a) o + a.bfcn (ix1 o)) 0 := by
  have h : rowV u a.Wfcn a.bfcn (ix1 o) = max ((∑ k : Fin 18537, u (ix1 k) * a.Wfcn (ix2 k o)) + a.bfcn (ix1 o)) 0 := by
    pointwise [rowV]
  rw [h]
  unfold Spec.lin
  rw [Finset.sum_range]
  have e : ∀ k : Fin 18537, u (ix1 k) * a.Wfcn (ix2 k o) = Spec.cat a (Spec.sfR a) k.val * Spec.wf a k.val o := fun k => by
    unfold Spec.wf
    rw [dif_pos k.isLt, ← hu k.val k.isLt]
  rw [Finset.sum_congr rfl fun k _ => e k]

/-- The result is the specification's, read by row and column. -/
theorem out_val (a : Spec.Args) (z : FVec 𝔽 S640 .f32) (hz : ∀ o : Fin 640, z (ix1 o) = max (Spec.lin a (Spec.sfR a) o + a.bfcn (ix1 o)) 0) (w : Fin 5) (f : Fin 128) :
    shapeCast S5x128 z shapeCasts_S640_S5x128 (ix2 w f) = Spec.out a (Spec.sfR a) w f := by
  refine (shapeCast_apply _ _ _ (ix1 ⟨128 * w.val + f.val, by omega⟩) ?_).trans (hz _)
  rw [Shape.rowMajor_val_two, Shape.rowMajor_val_one]
  show 128 * w.val + f.val = w.val * 128 + f.val
  omega

end Cert.ReferenceIdeal.Hand

end
-- ==== Proof.RefValue.lean ====
module

public import proofs.«01_k».proof.Proof.RefFrame
public import proofs.«01_k».proof.Proof.Spec
public import Idealize.ShloMosaic.Lib.KernelVsHost
public import Idealize.ShloMosaic.Lib.WordCmp
public import proofs.«01_k».proof.Proof.RefPre
public import proofs.«01_k».proof.Proof.RefLoop
public import proofs.«01_k».proof.Proof.RefPost

@[expose] public section

set_option maxRecDepth 16384

noncomputable section

namespace Cert.ReferenceIdeal.Hand

open Idealize.ShloMosaic Idealize.ShloMosaic.TcCoe Idealize.ShloMosaic.Tactic Idealize.SL.Sem Idealize.ShloMosaic.StableHlo
open Cert.ReferenceIdeal Cert.ReferenceIdeal.Gen Cert.ReferenceIdeal.Value

local notation "𝔽" => Idealize.ShloMosaic.Ideal

/-! # The reference's value -/

variable (m : (ℓ : Loc nD τ sig) → Buf (Elt 𝔽) ℓ) (ρ : Dev nD → PrngReg)

/-- The sixteen arguments as the specification names them. -/
def argsOf (c : Dev nD) : Spec.Args where
  x := m ((c.tc : Thread nD τ).loc main_arg0)
  fft := m ((c.tc : Thread nD τ).loc main_arg1)
  Wfuse := m ((c.tc : Thread nD τ).loc main_arg2)
  bfuse := m ((c.tc : Thread nD τ).loc main_arg3)
  Wtime := m ((c.tc : Thread nD τ).loc main_arg4)
  btime := m ((c.tc : Thread nD τ).loc main_arg5)
  Wih := m ((c.tc : Thread nD τ).loc main_arg6)
  Whh := m ((c.tc : Thread nD τ).loc main_arg7)
  bih := m ((c.tc : Thread nD τ).loc main_arg8)
  bhh := m ((c.tc : Thread nD τ).loc main_arg9)
  Wtadj := m ((c.tc : Thread nD τ).loc main_arg10)
  Wt := m ((c.tc : Thread nD τ).loc main_arg11)
  Wsadj := m ((c.tc : Thread nD τ).loc main_arg12)
  Ws := m ((c.tc : Thread nD τ).loc main_arg13)
  Wfcn := m ((c.tc : Thread nD τ).loc main_arg14)
  bfcn := m ((c.tc : Thread nD τ).loc main_arg15)

variable (c : Dev nD)

/-- What the loop is entered with, where the readings are reals. -/
theorem entry (hx : ∀ j, ∃ r : ℝ, (argsOf m c).x j = (r : EReal)) : Carry (argsOf m c) 0 (atK m 0 c) where
  tim t w := by
    have e : atK m 0 c (Proc.devRef .tc main_v15_0) = _ := pre_tim _
    refine (congrFun e (ix2 t w)).trans ?_
    exact (congrFun (congrArg (fun y => timV y (argsOf m c).Wtime (argsOf m c).btime) (cleaned (argsOf m c).x hx)) (ix2 t w)).trans (timV_val (argsOf m c) t w)
  wih := pre_wih _
  bih := pre_bih _
  whh := pre_whh _
  bhh := pre_bhh _
  ctr := atK_ctr m c 0
  hid w := by
    have e : atK m 0 c (Proc.devRef .tc main_v15_6) = _ := pre_state _
    refine (congrFun e (ix1 w)).trans ?_
    exact Ideal.ofBits_zero_f32
  outs t w h := absurd h (Nat.not_lt_zero _)

/-- The frequency part, after the loop. -/
theorem kept_freq (hx : ∀ j, ∃ r : ℝ, (argsOf m c).x j = (r : EReal)) (w : Fin 5) (f : Fin 128) :
    (after condOps (atK m 128 c) (Proc.devRef .tc main_v6) : FVec 𝔽 S5x128 .f32) (ix2 w f) = Spec.freq (argsOf m c) w f := by
  have e := (cond_keeps_kept (atK m 128 c) main_v6 (by decide)).trans ((trips_keep m c main_v6 (by decide) 128).trans (pre_freq _))
  refine (congrFun e (ix2 w f)).trans ?_
  exact (congrFun (congrArg (fun y => freqV y (argsOf m c).fft (argsOf m c).Wfuse (argsOf m c).bfuse) (cleaned (argsOf m c).x hx)) (ix2 w f)).trans (freqV_val (argsOf m c) w f)

/-- An argument, after the loop. -/
theorem kept_arg (j : Ref sig .tc) (hj : j ∈ argRefs) : after condOps (atK m 128 c) (Proc.devRef .tc j) = m ((c.tc : Thread nD τ).loc j) :=
  (cond_keeps_kept _ j (List.mem_cons_of_mem _ hj)).trans ((trips_keep m c j (List.mem_cons_of_mem _ hj) 128).trans (pre_keeps _ j hj))

/-- The result of the reference is the specification's, where the readings are reals. -/
theorem result_val (hx : ∀ j, ∃ r : ℝ, (argsOf m c).x j = (r : EReal)) (w : Fin 5) (f : Fin 128) :
    (finalContents condOps preI bodyI postI 128 m c (Proc.devRef .tc main_v44) : FVec 𝔽 S5x128 .f32) (ix2 w f)
      = Spec.out (argsOf m c) (Spec.sfR (argsOf m c)) w f := by
  refine (congrFun (post_out (after condOps (atK m 128 c))) (ix2 w f)).trans ?_
  rw [kept_arg m c main_arg10 (by decide), kept_arg m c main_arg11 (by decide), kept_arg m c main_arg12 (by decide), kept_arg m c main_arg13 (by decide),
    kept_arg m c main_arg14 (by decide), kept_arg m c main_arg15 (by decide)]
  have hl := carry m c (entry m c hx) 128 (Nat.le_refl _)
  refine out_val (argsOf m c) _ (fun o => rowV_val (argsOf m c) _ (fun n hn => catV_val (argsOf m c) _ _ _ _ ?_ ?_ ?_ ?_ n hn) o) w f
  · exact fun i k => tFeat_val (argsOf m c) _ _ (tAdj_val (argsOf m c)) (kept_freq m c hx) i k
  · exact fun i k => sFeat_val (argsOf m c) _ _ (sAdj_val (argsOf m c))
      (fun t w => (congrFun (cond_keeps (atK m 128 c) main_v15_7 (by decide)) (ix2 t w)).trans (hl.outs t w t.isLt)) i k
  · exact tAdj_val (argsOf m c)
  · exact sAdj_val (argsOf m c)

/-- The reference runs, ends with the specification's result, and leaves every argument as it was. -/
theorem value (hx : ∀ c j, ∃ r : ℝ, (argsOf m c).x j = (r : EReal)) :
    θ_run (defs (F := 𝔽)) (onTc (τ := τ) (main (F := 𝔽))) ⟨m, fun _ => 0, ρ⟩ (fun r => ∀ c : Dev nD,
      r.2.mem ((c.tc : Thread nD τ).loc main_v44) = (fun j => Spec.out (argsOf m c) (Spec.sfR (argsOf m c)) (j 0) (j 1) : FVec 𝔽 S5x128 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run _ _ _).mono (fun r hr c => ⟨(hr c main_v44 (by decide)).trans (funext fun j => by
      refine Eq.trans (congrArg (finalContents condOps preI bodyI postI 128 m c (Proc.devRef .tc main_v44) : FVec 𝔽 S5x128 .f32) ?_) (result_val m c (hx c) (j 0) (j 1))
      funext b
      fin_cases b <;> rfl),
    (hr c main_arg0 (arg_unscoped main_arg0 (by decide))).trans (final_arg m c main_arg0 (by decide)), (hr c main_arg1 (arg_unscoped main_arg1 (by decide))).trans (final_arg m c main_arg1 (by decide)), (hr c main_arg2 (arg_unscoped main_arg2 (by decide))).trans (final_arg m c main_arg2 (by decide)), (hr c main_arg3 (arg_unscoped main_arg3 (by decide))).trans (final_arg m c main_arg3 (by decide)), (hr c main_arg4 (arg_unscoped main_arg4 (by decide))).trans (final_arg m c main_arg4 (by decide)), (hr c main_arg5 (arg_unscoped main_arg5 (by decide))).trans (final_arg m c main_arg5 (by decide)), (hr c main_arg6 (arg_unscoped main_arg6 (by decide))).trans (final_arg m c main_arg6 (by decide)), (hr c main_arg7 (arg_unscoped main_arg7 (by decide))).trans (final_arg m c main_arg7 (by decide)), (hr c main_arg8 (arg_unscoped main_arg8 (by decide))).trans (final_arg m c main_arg8 (by decide)), (hr c main_arg9 (arg_unscoped main_arg9 (by decide))).trans (final_arg m c main_arg9 (by decide)), (hr c main_arg10 (arg_unscoped main_arg10 (by decide))).trans (final_arg m c main_arg10 (by decide)), (hr c main_arg11 (arg_unscoped main_arg11 (by decide))).trans (final_arg m c main_arg11 (by decide)), (hr c main_arg12 (arg_unscoped main_arg12 (by decide))).trans (final_arg m c main_arg12 (by decide)), (hr c main_arg13 (arg_unscoped main_arg13 (by decide))).trans (final_arg m c main_arg13 (by decide)), (hr c main_arg14 (arg_unscoped main_arg14 (by decide))).trans (final_arg m c main_arg14 (by decide)), (hr c main_arg15 (arg_unscoped main_arg15 (by decide))).trans (final_arg m c main_arg15 (by decide))⟩) (run_fold m ρ)

end Cert.ReferenceIdeal.Hand

end
-- ==== Proof.Precond.lean ====
module

public import proofs.«01_k».proof.Pre_finite_xs
public import Idealize.ShloMosaic.Lib.ReduceAll
public import Idealize.ShloMosaic.Lib.Pipeline.Value
public import Idealize.ShloMosaic.Lib.Affine
public import Idealize.ShloMosaic.PureOps.Ideal
public import proofs.«01_k».proof.Proof.Spec

@[expose] public section

noncomputable section

namespace Cert.Pre_finite_xs

open Idealize.ShloMosaic

/-- The shape facts the precondition's operations state. -/
theorem facts : Facts where
  bcast_S_S5x128 := by decide
  reducesTo_S5x128_S_d0_1 := by decide
  h_S_ := by decide
  bcast_S_S5x16 := by decide
  reducesTo_S5x16_S_d0_1 := by decide

/-- A value whose magnitude lies below the infinity's word is a real. -/
theorem real_of_lt (x : EReal)
    (h : (FloatOps.cmpf (F := Ideal) (φ := .f32) .olt (FloatOps.hostAbsf (F := Ideal) (φ := .f32) x) (FloatOps.ofBits (F := Ideal) .f32 0x7F800000#32)) = 1#1) :
    ∃ r : ℝ, x = (r : EReal) := by
  have htop : Ideal.ofBits .f32 0x7F800000#32 = ⊤ := by simp [Ideal.ofBits, Ideal.ieee]
  have h' : BitVec.ofBool (decide (max x (-x) < Ideal.ofBits .f32 0x7F800000#32)) = 1#1 := h
  rw [htop] at h'
  have hlt : max x (-x) < ⊤ := by
    by_contra hc
    rw [decide_eq_false hc] at h'
    exact absurd h' (by decide)
  rw [max_lt_iff] at hlt
  refine ⟨x.toReal, (EReal.coe_toReal (ne_of_lt hlt.1) ?_).symm⟩
  rintro rfl
  exact absurd hlt.2 (by simp)

instance : Subsingleton S_.Idx := ⟨fun a b => funext fun k => k.elim0⟩

/-- Where the precondition holds, the readings and the spatial weights are reals. -/
theorem reals [Facts] (x : FVec Ideal S5x128 .f32) (x1 : FVec Ideal S5x128 .f32) (x2 : FVec Ideal S256x128 .f32) (x3 : FVec Ideal S128 .f32)
    (x4 : FVec Ideal S5x5 .f32) (x5 : FVec Ideal S5 .f32) (x6 x7 : FVec Ideal S15x5 .f32) (x8 x9 : FVec Ideal S15 .f32)
    (x10 : FVec Ideal S5x5 .f32) (x11 : FVec Ideal S128x16 .f32) (x12 : FVec Ideal S128x128 .f32) (x13 : FVec Ideal S5x16 .f32)
    (x14 : FVec Ideal S18537x640 .f32) (x15 : FVec Ideal S640 .f32)
    (h : fn (F := Ideal) x x1 x2 x3 x4 x5 x6 x7 x8 x9 x10 x11 x12 x13 x14 x15 = fun _ => 1#1) :
    (∀ j, ∃ r : ℝ, x j = (r : EReal)) ∧ ∀ j, ∃ r : ℝ, x13 j = (r : EReal) := by
  have h0 := congrFun h (fun k => k.elim0)
  unfold fn at h0
  dsimp only at h0
  obtain ⟨ha, hb⟩ := IntOp.andi_eq_one.1 h0
  exact ⟨fun j => real_of_lt _ (Host.reduce_andi_all _ _ _ _ _ ha j), fun j => real_of_lt _ (Host.reduce_andi_all _ _ _ _ _ hb j)⟩

end Cert.Pre_finite_xs
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.KernelBody
public import proofs.«01_k».proof.Proof.KernelIdealBody
public import proofs.«01_k».proof.Proof.RefFrame
public import proofs.«01_k».proof.Proof.KernelIdealValue
public import proofs.«01_k».proof.Proof.RefValue
public import proofs.«01_k».proof.Proof.Precond
public import Idealize.ShloMosaic.Adequacy
public import Idealize.ShloMosaic.Init

@[expose] public section

noncomputable section

namespace Cert.Proof

open Idealize.ShloMosaic Idealize.SL.Sem Cert.Kernel

/-- Two lists of the sixteen arguments are equal where each argument is. -/
theorem args_eq {a b : Cert.Spec.Args} (h0 : a.x = b.x) (h1 : a.fft = b.fft) (h2 : a.Wfuse = b.Wfuse) (h3 : a.bfuse = b.bfuse) (h4 : a.Wtime = b.Wtime) (h5 : a.btime = b.btime) (h6 : a.Wih = b.Wih) (h7 : a.Whh = b.Whh) (h8 : a.bih = b.bih) (h9 : a.bhh = b.bhh) (h10 : a.Wtadj = b.Wtadj) (h11 : a.Wt = b.Wt) (h12 : a.Wsadj = b.Wsadj) (h13 : a.Ws = b.Ws) (h14 : a.Wfcn = b.Wfcn) (h15 : a.bfcn = b.bfcn) : a = b := by
  cases a
  cases b
  dsimp only at h0 h1 h2 h3 h4 h5 h6 h7 h8 h9 h10 h11 h12 h13 h14 h15
  subst h0 h1 h2 h3 h4 h5 h6 h7 h8 h9 h10 h11 h12 h13 h14 h15
  rfl

/-- Where the readings and the spatial weights are finite, the kernel and the reference end with one result. -/
theorem same_result [hPre : Cert.Pre_finite_xs.Facts] : algebraic_KernelIdeal_ReferenceIdeal_pre_finite_xs (hKernelIdeal := Cert.KernelIdeal.Gen.facts)
    (hReferenceIdeal := Cert.ReferenceIdeal.Gen.facts) (hPre_finite_xs := hPre) := by
  intro m g m' g' hpre h
  have hargs : ∀ c, Cert.ReferenceIdeal.Hand.argsOf m' c = Cert.KernelIdeal.Hand.argsOf m c := fun c => by
    obtain ⟨h0, h1, h2, h3, h4, h5, h6, h7, h8, h9, h10, h11, h12, h13, h14, h15⟩ := h c
    exact args_eq h0 h1 h2 h3 h4 h5 h6 h7 h8 h9 h10 h11 h12 h13 h14 h15
  have hreal := fun c => Cert.Pre_finite_xs.reals _ _ _ _ _ _ _ _ _ _ _ _ _ _ _ _ (hpre c)
  refine ⟨Cert.KernelIdeal.Hand.result m, Cert.KernelIdeal.Hand.value m g, ?_⟩
  refine (θ_run _ _ _).mono (fun r hr c => ⟨(hr c).1.trans ?_, (hr c).2⟩) (Cert.ReferenceIdeal.Hand.value m' g' fun c j => by
    rw [hargs c]
    exact (hreal c).1 j)
  rw [hargs c]
  funext j
  show Cert.Spec.out _ (Cert.Spec.sfR _) _ _ = Cert.Spec.out _ (Cert.Spec.sf _) _ _
  rw [Cert.Spec.sf_eq (Cert.KernelIdeal.Hand.argsOf m c) (hreal c).2]

/-- The three programs run, keep their arguments and end with every counter at zero; the two kernels print the same; the
kernel over the extended reals ends with the reference's result where the precondition holds. -/
theorem claim : Cert.Claim := ⟨Cert.Kernel.Gen.facts, Cert.KernelIdeal.Gen.facts, Cert.ReferenceIdeal.Gen.facts, Cert.Pre_finite_xs.facts,
  fun m ρ _ => Cert.Kernel.Hand.frame m ρ, fun m ρ _ => Cert.KernelIdeal.Hand.frame m ρ, fun m ρ _ => Cert.KernelIdeal.Hand.frame m ρ,
  fun m ρ _ => Cert.ReferenceIdeal.Hand.frame m ρ, fun m ρ _ => Cert.ReferenceIdeal.Hand.frame m ρ, trivial,
  same_result (hPre := Cert.Pre_finite_xs.facts)⟩

end Cert.Proof

end
